-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![1024, 1024]⟩ ⟨2, ![2048, 1024]⟩ (Layout.meshBlock [2, 2, 2] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![2048, 512]⟩ ⟨2, ![2048, 1024]⟩ (Layout.meshBlock [2, 2, 2] ![[], [2]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x1024 : Shape := ⟨2, ![1024, 1024]⟩
abbrev S2048x512 : Shape := ⟨2, ![2048, 512]⟩
abbrev S1024x512 : Shape := ⟨2, ![1024, 512]⟩
abbrev S3 : Shape := ⟨1, ![3]⟩
abbrev S_ : Shape := ⟨0, ![]⟩
abbrev S2 : Shape := ⟨1, ![2]⟩
abbrev S1 : Shape := ⟨1, ![1]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S2048x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let c0_i32_11 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v17 : BitVec 32 := Scalar.muli v9 c512_i32
  ![0, v17.toNat]
def k0_off2 (d0 : Dev nD) : Fin 2 → Nat :=
  let c512_i32_16 : BitVec 32 := 512#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32_12 : BitVec 32 := 512#32
  let v22 : BitVec 32 := Scalar.muli v9 c512_i32_12
  ![512, v22.toNat]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v36 : BitVec 32 := Scalar.muli v8 c1024_i32
  let c0_i32_31 : BitVec 32 := 0#32
  ![v36.toNat, 0]
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v37 : BitVec 32 := Scalar.muli v2 c4_i32_27
  let v38 : BitVec 32 := Scalar.addi c0_i32_28 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v39 : BitVec 32 := Scalar.muli v5 c2_i32_29
  let v40 : BitVec 32 := Scalar.addi v38 v39
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_30 : BitVec 32 := 1#32
  let v41 : BitVec 32 := Scalar.muli v9 c1_i32_30
  let v42 : BitVec 32 := Scalar.addi v40 v41
  v42.toNat
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_41 : BitVec 32 := 1024#32
  let v58 : BitVec 32 := Scalar.muli v8 c1024_i32_41
  let c512_i32_42 : BitVec 32 := 512#32
  let v59 : BitVec 32 := Scalar.addi v58 c512_i32_42
  let c0_i32_49 : BitVec 32 := 0#32
  ![v59.toNat, 0]
def k0_dev3 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v60 : BitVec 32 := Scalar.muli v2 c4_i32_45
  let v61 : BitVec 32 := Scalar.addi c0_i32_46 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v62 : BitVec 32 := Scalar.muli v5 c2_i32_47
  let v63 : BitVec 32 := Scalar.addi v61 v62
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_48 : BitVec 32 := 1#32
  let v64 : BitVec 32 := Scalar.muli v9 c1_i32_48
  let v65 : BitVec 32 := Scalar.addi v63 v64
  v65.toNat
def k0_off5 (d0 : Dev nD) : Fin 2 → Nat :=
  let c0_i32_54 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_52 : BitVec 32 := 512#32
  let v72 : BitVec 32 := Scalar.muli v8 c512_i32_52
  ![0, v72.toNat]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_61 : BitVec 32 := 1024#32
  let v84 : BitVec 32 := Scalar.muli v8 c1024_i32_61
  let c0_i32_62 : BitVec 32 := 0#32
  ![v84.toNat, 0]
-- ==== Reference.lean ====
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Contents.lean ====
/- What every buffer of the exchange holds, written as a function of the argument blocks, and the
   pieces the kernel's copies and stores move between them.  Nothing here is about time: this module
   only says which elements each slice covers and what each landing leaves there. -/
module

public import proofs.«01_k».proof.Proof.Gen.KernelIdeal
public import proofs.«01_k».proof.Proof.Gen.KernelIdeal.Skeleton
public import Idealize.ShloMosaic.Lib.Pipeline.Value
public import Idealize.ShloMosaic.Lib.Tactic

@[expose] public section

set_option maxRecDepth 16384

noncomputable section

namespace Cert.KernelIdeal.Xchg

open Idealize.ShloMosaic Idealize.ShloMosaic.TcCoe
open Cert.KernelIdeal.Gen

variable {F : FTy → Type} [FloatOps F]

/-! ## The partner -/

/-- The device that differs from `c` in its last mesh coordinate only. -/
def peer (c : Dev nD) : Dev nD :=
  ⟨(4 * (c.val / 4) + 2 * ((c.val / 2) % 2) + 1) - (c.val % 2), by
    have h : c.val < 8 := c.isLt
    show _ < 8
    omega⟩

/-- The partner's partner is the device itself. -/
theorem peer_peer : ∀ c : Dev nD, peer (peer c) = c := by decide

/-- Partners hold opposite last coordinates. -/
theorem peer_z : ∀ c : Dev nD, (peer c).val % 2 = 1 - c.val % 2 := by decide

/-- The entry signal goes to the partner. -/
theorem dev1_peer (c : Dev nD) : (⟨k0_dev1 c, k0_dev1_lt c⟩ : Dev nD) = peer c := Fin.ext (k0_dev1_eq c)
/-- The first transfer goes to the partner. -/
theorem dev2_peer (c : Dev nD) : (⟨k0_dev2 c, k0_dev2_lt c⟩ : Dev nD) = peer c := Fin.ext (k0_dev2_eq c)
/-- The second transfer goes to the partner. -/
theorem dev3_peer (c : Dev nD) : (⟨k0_dev3 c, k0_dev3_lt c⟩ : Dev nD) = peer c := Fin.ext (k0_dev3_eq c)

/-- Swapping every device with its partner. -/
def peerEquiv : Dev nD ≃ Dev nD := ⟨peer, peer, peer_peer, peer_peer⟩

/-! ## The buffers and their slices -/

/-- The argument block. -/
abbrev xM : Memref sig .tc .hbm S1024x1024 .f32 := Memref.whole main_arg0
/-- The result block. -/
abbrev oM : Memref sig .tc .hbm S2048x512 .bf16 := Memref.whole main_v1
/-- The staged half that will be sent, before the conversion. -/
abbrev aM : Memref sig .tc .vmem S1024x512 .f32 := Memref.whole cc0_scratch0
/-- The staged half that stays, before the conversion. -/
abbrev bM : Memref sig .tc .vmem S1024x512 .f32 := Memref.whole cc0_scratch1
/-- The converted half to be sent. -/
abbrev hM : Memref sig .tc .vmem S1024x512 .bf16 := Memref.whole cc0_scratch2
/-- The converted half that stays. -/
abbrev gM : Memref sig .tc .vmem S1024x512 .bf16 := Memref.whole cc0_scratch3

/-- The upper half of a staging buffer. -/
abbrev rTop : Rect S1024x512 := Rect.unit (s := S1024x512) ![0, 0] S512x512.size inb_S1024x512_S512x512_0_0
/-- The lower half of a staging buffer. -/
abbrev rBot : Rect S1024x512 := Rect.unit (s := S1024x512) ![512, 0] S512x512.size inb_S1024x512_S512x512_512_0
/-- All of a staging buffer. -/
abbrev rAll : Rect S1024x512 := Rect.unit (s := S1024x512) ![0, 0] S1024x512.size inb_S1024x512_S1024x512_0_0

/-- The upper quarter of the argument that device `d` sends. -/
abbrev rX1 (d : Dev nD) : Rect S1024x1024 := Rect.unit (s := S1024x1024) (k0_off1 d) S512x512.size (k0_off1_inb d)
/-- The lower quarter of the argument that device `d` sends. -/
abbrev rX2 (d : Dev nD) : Rect S1024x1024 := Rect.unit (s := S1024x1024) (k0_off2 d) S512x512.size (k0_off2_inb d)
/-- The half of the argument that device `d` keeps. -/
abbrev rX5 (d : Dev nD) : Rect S1024x1024 := Rect.unit (s := S1024x1024) (k0_off5 d) S1024x512.size (k0_off5_inb d)
/-- Where `d`'s upper quarter lands in its partner's result. -/
abbrev rO3 (d : Dev nD) : Rect S2048x512 := Rect.unit (s := S2048x512) (k0_off3 d) S512x512.size (k0_off3_inb d)
/-- Where `d`'s lower quarter lands in its partner's result. -/
abbrev rO4 (d : Dev nD) : Rect S2048x512 := Rect.unit (s := S2048x512) (k0_off4 d) S512x512.size (k0_off4_inb d)
/-- Where `d`'s kept half lands in its own result. -/
abbrev rO6 (d : Dev nD) : Rect S2048x512 := Rect.unit (s := S2048x512) (k0_off6 d) S1024x512.size (k0_off6_inb d)

/-- The upper quarter of the argument that leaves. -/
abbrev x1 (d : Dev nD) : Memref sig .tc .hbm S512x512 .f32 := xM.slice (rX1 d) (fun _ => rfl)
/-- The lower quarter of the argument that leaves. -/
abbrev x2 (d : Dev nD) : Memref sig .tc .hbm S512x512 .f32 := xM.slice (rX2 d) (fun _ => rfl)
/-- The half of the argument that stays. -/
abbrev x5 (d : Dev nD) : Memref sig .tc .hbm S1024x512 .f32 := xM.slice (rX5 d) (fun _ => rfl)
/-- Where the upper quarter of `d` lands in its partner's result. -/
abbrev o3 (d : Dev nD) : Memref sig .tc .hbm S512x512 .bf16 := oM.slice (rO3 d) (fun _ => rfl)
/-- Where the lower quarter of `d` lands in its partner's result. -/
abbrev o4 (d : Dev nD) : Memref sig .tc .hbm S512x512 .bf16 := oM.slice (rO4 d) (fun _ => rfl)
/-- The rows of its own result that `d` writes itself. -/
abbrev o6 (d : Dev nD) : Memref sig .tc .hbm S1024x512 .bf16 := oM.slice (rO6 d) (fun _ => rfl)
/-- The upper half of the staged block. -/
abbrev aT : Memref sig .tc .vmem S512x512 .f32 := aM.slice rTop (fun _ => rfl)
/-- The lower half of the staged block. -/
abbrev aB : Memref sig .tc .vmem S512x512 .f32 := aM.slice rBot (fun _ => rfl)
/-- The upper half of the block to be sent. -/
abbrev hT : Memref sig .tc .vmem S512x512 .bf16 := hM.slice rTop (fun _ => rfl)
/-- The lower half of the block to be sent. -/
abbrev hB : Memref sig .tc .vmem S512x512 .bf16 := hM.slice rBot (fun _ => rfl)

/-! ## The contents -/

/-- The index of the argument block at row `r` and column `k`, both taken modulo its extents. -/
def ix (r k : ℕ) : S1024x1024.Idx :=
  fun a => ⟨(if a = 0 then r else k) % 1024, by
    have e : S1024x1024.size a = 1024 := by fin_cases a <;> rfl
    rw [e]; exact Nat.mod_lt _ (by decide)⟩

/-- An index in range is the one named by its own coordinates. -/
theorem eq_ix (i : S1024x1024.Idx) (r k : ℕ) (h0 : (i 0).val = r) (h1 : (i 1).val = k) : i = ix r k := by
  funext a
  apply Fin.ext
  have e0 : (i 0).val < 1024 := (i 0).isLt
  have e1 : (i 1).val < 1024 := (i 1).isLt
  fin_cases a
  · show (i 0).val = r % 1024
    omega
  · show (i 1).val = k % 1024
    omega

/-- The value the conversion to the result's type gives one element. -/
def cv (x : Elt F .f32) : Elt F .bf16 := (truncf .bf16 (fun _ : S1024x1024.Idx => x) bitsLt_bf16_f32) (ix 0 0)

/-- The conversion acts on each element by itself. -/
theorem cv_truncf {s : Shape} (v : s.Idx → Elt F .f32) (i : s.Idx) :
    (truncf .bf16 (v : Vec F s .f32) bitsLt_bf16_f32 : Vec F s .bf16) i = cv (v i) := rfl

variable (m : (ℓ : Loc nD τ sig) → Buf (Elt F) ℓ)

/-- Device `c`'s argument block as launched. -/
def xAt (c : Dev nD) : S1024x1024.Idx → Elt F .f32 := m ((c : Thread nD τ).loc main_arg0)

/-- The half of the argument that leaves `c`, as staged: the columns of its partner. -/
def stageS (c : Dev nD) : S1024x512.Idx → Elt F .f32 :=
  fun i => xAt m c (ix (i 0).val (512 - 512 * (c.val % 2) + (i 1).val))

/-- The half of the argument that stays on `c`, as staged: its own columns. -/
def stageK (c : Dev nD) : S1024x512.Idx → Elt F .f32 :=
  fun i => xAt m c (ix (i 0).val (512 * (c.val % 2) + (i 1).val))

/-- The converted half that leaves `c`. -/
def sentH (c : Dev nD) : S1024x512.Idx → Elt F .bf16 := fun i => cv (stageS m c i)

/-- The converted half that stays on `c`. -/
def keptH (c : Dev nD) : S1024x512.Idx → Elt F .bf16 := fun i => cv (stageK m c i)

/-- The device of `c`'s pair whose rows the result row `r` comes from. -/
def rowDev (c : Dev nD) (r : ℕ) : Dev nD := if r / 1024 = c.val % 2 then c else peer c

/-- What `c`'s result block holds in the end: the rows of both partners, in the columns `c` owns. -/
def outF (c : Dev nD) : S2048x512.Idx → Elt F .bf16 :=
  fun i => cv (xAt m (rowDev c (i 0).val) (ix ((i 0).val % 1024) (512 * (c.val % 2) + (i 1).val)))

/-! ## What each landing leaves -/

/-- Writing through one view what another view reads leaves `g`, once the two views read the same. -/
theorem landing {sp sp' : Space} {s : Shape} {e : EltTy} (u : View sig .tc sp s e) (v : View sig .tc sp' s e)
    (fs : u.ty.Contents (Elt F)) (fd g : v.ty.Contents (Elt F)) (h : ∀ x, u.read (Elt F) fs x = v.read (Elt F) g x) :
    ∀ i ∈ v.set, v.write (Elt F) fd (u.read (Elt F) fs) Finset.univ i = g i := by
  intro i hi
  rw [show u.read (Elt F) fs = v.read (Elt F) g from funext h, View.write_read_eq_piecewise]
  exact Finset.piecewise_eq_of_mem _ _ _ hi

/-- The same for a payload that is computed: it only has to be what the view reads off `g`. -/
theorem stored {sp : Space} {s : Shape} {e : EltTy} (v : View sig .tc sp s e)
    (fd g : v.ty.Contents (Elt F)) (w : s.Idx → Elt F e) (h : ∀ x, w x = v.read (Elt F) g x) :
    ∀ i ∈ v.set, v.write (Elt F) fd w Finset.univ i = g i := by
  intro i hi
  rw [show w = v.read (Elt F) g from funext h, View.write_read_eq_piecewise]
  exact Finset.piecewise_eq_of_mem _ _ _ hi

/-- The upper staged quarter reads as the quarter of the argument it was copied from. -/
theorem read_aT (c : Dev nD) (x : S512x512.Idx) :
    (x1 c).view.read (Elt F) (xAt m c) x = aT.view.read (Elt F) (stageS m c) x := by
  show xAt m c ((x1 c).view.emb x) = xAt m c (ix (0 + 1 * (x 0).val) (512 - 512 * (c.val % 2) + (0 + 1 * (x 1).val)))
  congr 1
  apply eq_ix
  · show k0_off1 c 0 + 1 * (x 0).val = _
    rw [k0_off1_eq]; rfl
  · show k0_off1 c 1 + 1 * (x 1).val = _
    rw [k0_off1_eq]; show 512 - 512 * (c.val % 2) + 1 * (x 1).val = _; omega

/-- The lower staged quarter reads as the quarter of the argument it was copied from. -/
theorem read_aB (c : Dev nD) (x : S512x512.Idx) :
    (x2 c).view.read (Elt F) (xAt m c) x = aB.view.read (Elt F) (stageS m c) x := by
  show xAt m c ((x2 c).view.emb x) = xAt m c (ix (512 + 1 * (x 0).val) (512 - 512 * (c.val % 2) + (0 + 1 * (x 1).val)))
  congr 1
  apply eq_ix
  · show k0_off2 c 0 + 1 * (x 0).val = _
    rw [k0_off2_eq]; rfl
  · show k0_off2 c 1 + 1 * (x 1).val = _
    rw [k0_off2_eq]; show 512 - 512 * (c.val % 2) + 1 * (x 1).val = _; omega

/-- The staged half that stays reads as the half of the argument it was copied from. -/
theorem read_bM (c : Dev nD) (x : S1024x512.Idx) :
    (x5 c).view.read (Elt F) (xAt m c) x = bM.view.read (Elt F) (stageK m c) x := by
  show xAt m c ((x5 c).view.emb x) = xAt m c (ix (x 0).val (512 * (c.val % 2) + (x 1).val))
  congr 1
  apply eq_ix
  · show k0_off5 c 0 + 1 * (x 0).val = _
    rw [k0_off5_eq]; show 0 + 1 * (x 0).val = _; omega
  · show k0_off5 c 1 + 1 * (x 1).val = _
    rw [k0_off5_eq]; show 512 * (c.val % 2) + 1 * (x 1).val = _; omega

/-- The upper sent quarter reads as the partner's result where it lands. -/
theorem read_o3 (c : Dev nD) (x : S512x512.Idx) :
    hT.view.read (Elt F) (sentH m c) x = (o3 c).view.read (Elt F) (outF m (peer c)) x := by
  show cv (xAt m c (ix (0 + 1 * (x 0).val) (512 - 512 * (c.val % 2) + (0 + 1 * (x 1).val))))
    = cv (xAt m (rowDev (peer c) (k0_off3 c 0 + 1 * (x 0).val))
        (ix ((k0_off3 c 0 + 1 * (x 0).val) % 1024) (512 * ((peer c).val % 2) + (k0_off3 c 1 + 1 * (x 1).val))))
  have h0 : k0_off3 c 0 = 1024 * (c.val % 2) := by rw [k0_off3_eq]; rfl
  have h1 : k0_off3 c 1 = 0 := by rw [k0_off3_eq]; rfl
  have hx : (x 0).val < 512 := (x 0).isLt
  rw [h0, h1, peer_z]
  have hr : rowDev (peer c) (1024 * (c.val % 2) + 1 * (x 0).val) = c := by
    unfold rowDev
    rw [peer_z, if_neg (by omega), peer_peer]
  rw [hr]
  congr 3 <;> omega

/-- The lower sent quarter reads as the partner's result where it lands. -/
theorem read_o4 (c : Dev nD) (x : S512x512.Idx) :
    hB.view.read (Elt F) (sentH m c) x = (o4 c).view.read (Elt F) (outF m (peer c)) x := by
  show cv (xAt m c (ix (512 + 1 * (x 0).val) (512 - 512 * (c.val % 2) + (0 + 1 * (x 1).val))))
    = cv (xAt m (rowDev (peer c) (k0_off4 c 0 + 1 * (x 0).val))
        (ix ((k0_off4 c 0 + 1 * (x 0).val) % 1024) (512 * ((peer c).val % 2) + (k0_off4 c 1 + 1 * (x 1).val))))
  have h0 : k0_off4 c 0 = 1024 * (c.val % 2) + 512 := by rw [k0_off4_eq]; rfl
  have h1 : k0_off4 c 1 = 0 := by rw [k0_off4_eq]; rfl
  have hx : (x 0).val < 512 := (x 0).isLt
  rw [h0, h1, peer_z]
  have hr : rowDev (peer c) (1024 * (c.val % 2) + 512 + 1 * (x 0).val) = c := by
    unfold rowDev
    rw [peer_z, if_neg (by omega), peer_peer]
  rw [hr]
  congr 3 <;> omega

/-- The kept half reads as the device's own result where it lands. -/
theorem read_o6 (c : Dev nD) (x : S1024x512.Idx) :
    gM.view.read (Elt F) (keptH m c) x = (o6 c).view.read (Elt F) (outF m c) x := by
  show cv (xAt m c (ix (x 0).val (512 * (c.val % 2) + (x 1).val)))
    = cv (xAt m (rowDev c (k0_off6 c 0 + 1 * (x 0).val))
        (ix ((k0_off6 c 0 + 1 * (x 0).val) % 1024) (512 * (c.val % 2) + (k0_off6 c 1 + 1 * (x 1).val))))
  have h0 : k0_off6 c 0 = 1024 * (c.val % 2) := by rw [k0_off6_eq]; rfl
  have h1 : k0_off6 c 1 = 0 := by rw [k0_off6_eq]; rfl
  have hx : (x 0).val < 1024 := (x 0).isLt
  rw [h0, h1]
  have hr : rowDev c (1024 * (c.val % 2) + 1 * (x 0).val) = c := by
    unfold rowDev
    rw [if_pos (by omega)]
  rw [hr]
  congr 3 <;> omega

/-- The upper half stored for sending is the conversion of the upper staged quarter. -/
theorem pay1_eq (c : Dev nD) (x : S512x512.Idx) :
    (k0_pay1 (aM.view.readAt (Elt F) rTop.toLoadRect (stageS m c))) x = hT.view.read (Elt F) (sentH m c) x := by
  unfold k0_pay1
  rw [shapeCast_self]
  rfl

/-- The lower half stored for sending is the conversion of the lower staged quarter. -/
theorem pay2_eq (c : Dev nD) (x : S512x512.Idx) :
    (k0_pay2 (aM.view.readAt (Elt F) rBot.toLoadRect (stageS m c))) x = hB.view.read (Elt F) (sentH m c) x := by
  unfold k0_pay2
  rw [shapeCast_self]
  rfl

/-- The half stored for keeping is the conversion of the staged half. -/
theorem pay3_eq (c : Dev nD) (x : S1024x512.Idx) :
    (k0_pay3 (bM.view.readAt (Elt F) rAll.toLoadRect (stageK m c))) x = (gM.access rAll).read (Elt F) (keptH m c) x := by
  unfold k0_pay3
  rw [shapeCast_self]
  rfl

/-! ## Which elements the slices cover -/

/-- A slice of a whole buffer covers its rectangle; so for each slice below. -/
theorem set_x1 (c : Dev nD) : (x1 c).view.set = (rX1 c).set := View.set_slice_whole _ _
theorem set_x2 (c : Dev nD) : (x2 c).view.set = (rX2 c).set := View.set_slice_whole _ _
theorem set_x5 (c : Dev nD) : (x5 c).view.set = (rX5 c).set := View.set_slice_whole _ _
theorem set_o3 (c : Dev nD) : (o3 c).view.set = (rO3 c).set := View.set_slice_whole _ _
theorem set_o4 (c : Dev nD) : (o4 c).view.set = (rO4 c).set := View.set_slice_whole _ _
theorem set_o6 (c : Dev nD) : (o6 c).view.set = (rO6 c).set := View.set_slice_whole _ _
theorem set_aT : aT.view.set = rTop.set := View.set_slice_whole _ _
theorem set_aB : aB.view.set = rBot.set := View.set_slice_whole _ _
theorem set_hT : hT.view.set = rTop.set := View.set_slice_whole _ _
theorem set_hB : hB.view.set = rBot.set := View.set_slice_whole _ _

/-- The two halves of a staging buffer share no element. -/
theorem halves_disjoint : Disjoint rTop.set rBot.set :=
  Rect.unit_disjoint (s := S1024x512) 0 (Or.inl (by decide))

/-- The two halves of a staging buffer are all of it. -/
theorem halves_cover : rTop.set ∪ rBot.set = Finset.univ := by
  ext i
  have h0 : (i 0).val < 1024 := (i 0).isLt
  have h1 : (i 1).val < 512 := (i 1).isLt
  simp only [Finset.mem_union, Rect.mem_set_unit, Finset.mem_univ, iff_true, Fin.forall_fin_two]
  show ((0 ≤ (i 0).val ∧ (i 0).val < 0 + 512) ∧ (0 ≤ (i 1).val ∧ (i 1).val < 0 + 512))
    ∨ ((512 ≤ (i 0).val ∧ (i 0).val < 512 + 512) ∧ (0 ≤ (i 1).val ∧ (i 1).val < 0 + 512))
  omega

/-- The two quarters that leave share no element. -/
theorem quarters_disjoint (c : Dev nD) : Disjoint (rX1 c).set (rX2 c).set :=
  Rect.unit_disjoint (s := S1024x1024) 0 (Or.inl (by rw [k0_off1_eq, k0_off2_eq]; exact Nat.le_refl _))

/-- The half that stays shares no element with the quarters that leave. -/
theorem kept_disjoint (c : Dev nD) : Disjoint ((rX1 c).set ∪ (rX2 c).set) (rX5 c).set := by
  have hz : c.val % 2 = 0 ∨ c.val % 2 = 1 := by omega
  refine Finset.disjoint_union_left.mpr ⟨?_, ?_⟩
  · refine Rect.unit_disjoint (s := S1024x1024) 1 ?_
    rw [k0_off1_eq, k0_off5_eq]
    rcases hz with h | h <;> simp [h]
  · refine Rect.unit_disjoint (s := S1024x1024) 1 ?_
    rw [k0_off2_eq, k0_off5_eq]
    rcases hz with h | h <;> simp [h]

/-- The two quarters that leave and the half that stays are all of the argument block. -/
theorem x_cover (c : Dev nD) : ((rX1 c).set ∪ (rX2 c).set) ∪ (rX5 c).set = Finset.univ := by
  ext i
  have h0 : (i 0).val < 1024 := (i 0).isLt
  have h1 : (i 1).val < 1024 := (i 1).isLt
  simp only [Finset.mem_union, Rect.mem_set_unit, Finset.mem_univ, iff_true, Fin.forall_fin_two,
    k0_off1_eq, k0_off2_eq, k0_off5_eq]
  show (((0 ≤ (i 0).val ∧ (i 0).val < 0 + 512) ∧ (512 - 512 * (c.val % 2) ≤ (i 1).val ∧ (i 1).val < 512 - 512 * (c.val % 2) + 512))
    ∨ ((512 ≤ (i 0).val ∧ (i 0).val < 512 + 512) ∧ (512 - 512 * (c.val % 2) ≤ (i 1).val ∧ (i 1).val < 512 - 512 * (c.val % 2) + 512)))
    ∨ ((0 ≤ (i 0).val ∧ (i 0).val < 0 + 1024) ∧ (512 * (c.val % 2) ≤ (i 1).val ∧ (i 1).val < 512 * (c.val % 2) + 512))
  omega

/-- The two landing places in the partner's result share no element. -/
theorem landings_disjoint (c : Dev nD) : Disjoint (rO3 c).set (rO4 c).set :=
  Rect.unit_disjoint (s := S2048x512) 0 (Or.inl (by rw [k0_off3_eq, k0_off4_eq]; exact Nat.le_refl _))

/-- The rows a device keeps share no element with those it receives. -/
theorem own_disjoint (c : Dev nD) : Disjoint ((rO3 (peer c)).set ∪ (rO4 (peer c)).set) (rO6 c).set := by
  have hz : c.val % 2 = 0 ∨ c.val % 2 = 1 := by omega
  have hp := peer_z c
  refine Finset.disjoint_union_left.mpr ⟨?_, ?_⟩
  · refine Rect.unit_disjoint (s := S2048x512) 0 ?_
    rw [k0_off3_eq, k0_off6_eq, hp]
    rcases hz with h | h <;> simp [h]
  · refine Rect.unit_disjoint (s := S2048x512) 0 ?_
    rw [k0_off4_eq, k0_off6_eq, hp]
    rcases hz with h | h <;> simp [h]

/-- The rows received and the rows kept are all of the result block. -/
theorem o_cover (c : Dev nD) : ((rO3 (peer c)).set ∪ (rO4 (peer c)).set) ∪ (rO6 c).set = Finset.univ := by
  ext i
  have h0 : (i 0).val < 2048 := (i 0).isLt
  have h1 : (i 1).val < 512 := (i 1).isLt
  simp only [Finset.mem_union, Rect.mem_set_unit, Finset.mem_univ, iff_true, Fin.forall_fin_two,
    k0_off3_eq, k0_off4_eq, k0_off6_eq, peer_z]
  show (((1024 * (1 - c.val % 2) ≤ (i 0).val ∧ (i 0).val < 1024 * (1 - c.val % 2) + 512) ∧ (0 ≤ (i 1).val ∧ (i 1).val < 0 + 512))
    ∨ ((1024 * (1 - c.val % 2) + 512 ≤ (i 0).val ∧ (i 0).val < 1024 * (1 - c.val % 2) + 512 + 512) ∧ (0 ≤ (i 1).val ∧ (i 1).val < 0 + 512)))
    ∨ ((1024 * (c.val % 2) ≤ (i 0).val ∧ (i 0).val < 1024 * (c.val % 2) + 1024) ∧ (0 ≤ (i 1).val ∧ (i 1).val < 0 + 512))
  omega

end Cert.KernelIdeal.Xchg

end
-- ==== Proof.Protocol.lean ====
/- The protocol of the exchange: nine semaphore cells per device, each used for one round with one
   contribution.

   cell   raised by                       units          hands its owner
   0      the partner's entry signal      1              the two landing places in the partner's result
   1, 2   the owner's staging copies      one quarter    the staged quarter, and the argument's back
   3      the owner's staging copy        one half       the staged half, and the argument's back
   4      the owner's copy to its result  one half       the result rows it keeps, and the buffer back
   5, 6   the owner's two sends           one quarter    the buffer that was sent from
   7, 8   the partner's two sends         one quarter    the result rows that arrived

   Every wait is for the whole round of its cell, so it returns what the cell hands over and lets the
   cell be closed at zero at once. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Rounds

@[expose] public section

set_option maxRecDepth 16384

noncomputable section

namespace Cert.KernelIdeal.Xchg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## The resources -/

/-- The exchange's own ghost state: one contribution per cell and round. -/
abbrev UX : Type := URounds (GSem nD τ sig) Unit
/-- The launch's ghost state beside the exchange's. -/
abbrev UU : Type := UR sig nD τ × UX

local notation "𝕄" => MT nD τ sig Unit (Elt F) ℕ UU ℕ

/-- Where the launch's ghost state lies. -/
abbrev EP : Emb (UR sig nD τ) (MT nD τ sig Unit (Elt F) ℕ UU ℕ) := embL
/-- Where the exchange's ghost state lies. -/
abbrev ER : Emb UX (MT nD τ sig Unit (Elt F) ℕ UU ℕ) := embR
/-- No loop needs a variant. -/
abbrev 𝒱₀ : Variants := Variants.none

variable (m : (ℓ : Loc nD τ sig) → Buf (Elt F) ℓ)

/-! ## The cells -/

/-- The barrier semaphore. -/
abbrev barS : Sem sig := (SemArray.scalar (sig.barrier 0 rfl) : Sems sig S_).sem
/-- The semaphores of the three staging copies. -/
abbrev inS0 : DmaSem sig := ((cc0_scratch4.slice (Rect.unit (s := S3) ![0] S1.size inb_S3_S1_0)).squeeze S_ squeezes_S1_S_).sem
/-- The semaphore of the second staging copy. -/
abbrev inS1 : DmaSem sig := ((cc0_scratch4.slice (Rect.unit (s := S3) ![1] S1.size inb_S3_S1_1)).squeeze S_ squeezes_S1_S_).sem
/-- The semaphore of the third staging copy. -/
abbrev inS2 : DmaSem sig := ((cc0_scratch4.slice (Rect.unit (s := S3) ![2] S1.size inb_S3_S1_2)).squeeze S_ squeezes_S1_S_).sem
/-- The semaphore of the copy of the kept half to the result. -/
abbrev outS : DmaSem sig := cc0_scratch5.sem
/-- The semaphores that tell the sender its buffer is free. -/
abbrev sendS0 : DmaSem sig := ((cc0_scratch6.slice (Rect.unit (s := S2) ![0] S1.size inb_S2_S1_0)).squeeze S_ squeezes_S1_S_).sem
/-- The semaphore that tells the sender its lower half is free. -/
abbrev sendS1 : DmaSem sig := ((cc0_scratch6.slice (Rect.unit (s := S2) ![1] S1.size inb_S2_S1_1)).squeeze S_ squeezes_S1_S_).sem
/-- The semaphores that tell the receiver its rows have arrived. -/
abbrev recvS0 : DmaSem sig := ((cc0_scratch7.slice (Rect.unit (s := S2) ![0] S1.size inb_S2_S1_0)).squeeze S_ squeezes_S1_S_).sem
/-- The semaphore that tells the receiver its lower rows have arrived. -/
abbrev recvS1 : DmaSem sig := ((cc0_scratch7.slice (Rect.unit (s := S2) ![1] S1.size inb_S2_S1_1)).squeeze S_ squeezes_S1_S_).sem

/-- The nine semaphores in the order of the table above. -/
def csem : Fin 9 → SemLoc sig
  | 0 => .reg barS
  | 1 => .dma inS0
  | 2 => .dma inS1
  | 3 => .dma inS2
  | 4 => .dma outS
  | 5 => .dma sendS0
  | 6 => .dma sendS1
  | 7 => .dma recvS0
  | 8 => .dma recvS1

/-- The nine semaphores are different. -/
theorem csem_injective : Function.Injective csem := by decide

/-- Device `ck.1`'s cell number `ck.2`. -/
abbrev kcell (ck : Dev nD × Fin 9) : GSem nD τ sig := ((ck.1 : Thread nD τ), csem ck.2)

/-- Different numbers and devices name different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The number of a semaphore among the nine. -/
def knd (s : SemLoc sig) : Fin 9 := Function.invFun csem s

/-- The semaphore of number `k` has number `k`. -/
theorem knd_csem (k : Fin 9) : knd (csem k) = k := Function.leftInverse_invFun csem_injective k

/-- Who raises cell `k` for device `c`, and equally whose cell `k` device `c` raises. -/
def payee (k : Fin 9) (c : Dev nD) : Dev nD := if k = 0 ∨ k = 7 ∨ k = 8 then peer c else c

/-- Who raises a cell for whom is mutual. -/
theorem payee_payee (k : Fin 9) (c : Dev nD) : payee k (payee k c) = c := by
  unfold payee
  split
  · exact peer_peer c
  · rfl

/-! ## Units -/

/-- The units of a quarter of a converted block. -/
abbrev NQ : ℕ := hT.view.dmaCredit

/-- The units cell `k` gets in its one round. -/
def amt : Fin 9 → ℕ
  | 0 => 1
  | 1 => aT.view.dmaCredit
  | 2 => aB.view.dmaCredit
  | 3 => bM.view.dmaCredit
  | 4 => (o6 0).view.dmaCredit
  | _ => NQ

/-- Every cell gets at least one unit. -/
theorem amt_pos (k : Fin 9) : 0 < amt k := by
  fin_cases k
  · exact Nat.one_pos
  all_goals exact View.dmaCredit_pos _ (by decide)

/-- A quarter has the same units in the result block. -/
theorem credit_o3 (c : Dev nD) : (o3 c).view.dmaCredit = NQ := by decide +revert
/-- So has the lower landing place. -/
theorem credit_o4 (c : Dev nD) : (o4 c).view.dmaCredit = NQ := by decide +revert
/-- So has the lower half to be sent. -/
theorem credit_hB : hB.view.dmaCredit = NQ := rfl
/-- The rows a device writes itself have the units of cell 4. -/
theorem credit_o6 (c : Dev nD) : (o6 c).view.dmaCredit = amt 4 := rfl

/-! ## What the cells hand over -/

/-- Device `c` holds the elements of `M` at contents `f`. -/
abbrev part {sp : Space} {s : Shape} {e : EltTy} (M : Memref sig .tc sp s e) (c : Dev nD)
    (f : Buf (Elt F) (M.view.loc (c : Thread nD τ))) : sProp 𝕄 :=
  M.view.loc (c : Thread nD τ) ↦[M.view.set]{fullShare} f

/-- What cell `k` hands to its owner `c`. -/
def pay (k : Fin 9) (c : Dev nD) : sProp 𝕄 :=
  match k with
  | 0 => iprop((∃ f, part (o3 c) (peer c) f) ∗ (∃ f, part (o4 c) (peer c) f))
  | 1 => iprop(part aT c (stageS m c) ∗ part (x1 c) c (xAt m c))
  | 2 => iprop(part aB c (stageS m c) ∗ part (x2 c) c (xAt m c))
  | 3 => iprop(part bM c (stageK m c) ∗ part (x5 c) c (xAt m c))
  | 4 => iprop(part (o6 c) c (outF m c) ∗ part gM c (keptH m c))
  | 5 => part hT c (sentH m c)
  | 6 => part hB c (sentH m c)
  | 7 => part (o3 (peer c)) c (outF m c)
  | 8 => part (o4 (peer c)) c (outF m c)

/-- Every handover may be kept in a cell. -/
instance pay_storable (k : Fin 9) (c : Dev nD) : BI.Storable (upEmb : UEmb _ 𝕄) (pay (F := F) m k c) := by
  fin_cases k <;> (dsimp only [pay]; infer_instance)

/-- One round of one contribution at each of the nine cells of every device. -/
def xRd : Rounds.Schedule (GSem nD τ sig) Unit 𝕄 where
  duties g r := if r = 0 then {()} else ∅
  unitless _ := False
  amount g _ _ := amt (knd g.2)
  payload g _ _ := pay m (knd g.2) g.1.1
  amount_pos g _ _ _ := amt_pos _

/-- So may every payload of the schedule. -/
instance xRd_storable (g : GSem nD τ sig) (r : ℕ) (d : Unit) :
    BI.Storable (upEmb : UEmb _ 𝕄) ((xRd (F := F) m).payload g r d) := pay_storable m _ _

/-- Round 0 of a cell has its one contribution. -/
theorem duties_now (g : GSem nD τ sig) : (xRd (F := F) m).duties g 0 = {()} := by
  dsimp only [xRd]; rw [if_pos rfl]
/-- Later rounds have none. -/
theorem duties_later (g : GSem nD τ sig) : ∀ r, 0 + 1 ≤ r → (xRd (F := F) m).duties g r = ∅ :=
  fun r hr => by dsimp only [xRd]; rw [if_neg (by omega)]
/-- The contribution to cell `k` has that cell's units. -/
theorem amount_k (c : Dev nD) (k : Fin 9) : (xRd (F := F) m).amount (kcell (c, k)) 0 () = amt k := by
  show amt (knd (csem k)) = _; rw [knd_csem]
/-- The contribution to cell `k` hands over what `pay` says. -/
theorem payload_k (c : Dev nD) (k : Fin 9) : (xRd (F := F) m).payload (kcell (c, k)) 0 () = pay m k c := by
  show pay m (knd (csem k)) c = _; rw [knd_csem]
/-- The barrier's contribution hands over the landing places. -/
theorem payload_bar (c : Dev nD) : (xRd (F := F) m).payload ((c : Thread nD τ), .reg barS) 0 () = pay m 0 c := payload_k m c 0
/-- Cell `k` expects its units in round 0. -/
theorem expect_k (c : Dev nD) (k : Fin 9) : (xRd (F := F) m).expect (kcell (c, k)) 0 = amt k := by
  unfold Schedule.expect Schedule.amountOf
  rw [duties_now, Finset.sum_singleton, amount_k]
/-- The whole round of cell `k` hands over what `pay` says. -/
theorem rest_k (c : Dev nD) (k : Fin 9) :
    bigSep ((xRd (F := F) m).duties (kcell (c, k)) 0 \ ∅) (fun d => (xRd (F := F) m).payload (kcell (c, k)) 0 d) = pay m k c := by
  rw [Finset.sdiff_empty, duties_now, bigSep_singleton, payload_k]

/-! ## Debts and levels -/

/-- Device `c` owes its partner both arrivals and the entry signal; the signal is paid first, then the
    upper quarter, then the lower. -/
def O₂ (c : Dev nD) : CellTallies nD τ sig Unit := tallyAt (kcell (peer c, 8)) () NQ
/-- What is owed once the entry signal is given. -/
def O₁ (c : Dev nD) : CellTallies nD τ sig Unit := O₂ c + tallyAt (kcell (peer c, 7)) () NQ
/-- What is owed at launch. -/
def O₀ (c : Dev nD) : CellTallies nD τ sig Unit := O₁ c + tallyAt (kcell (peer c, 0)) () 1

/-- Arrivals above the entry signal, the entry signal above everything a device does for itself. -/
def lvl (k : Fin 9) : ℕ := if k = 0 then 1 else if k = 7 ∨ k = 8 then 2 else 0

/-- Every cell of a main core has one level. -/
def L (g : GSem nD τ sig) : Finset Unit := if g.1.2 = .tc then {()} else ∅
/-- A cell's level is that of its number. -/
def lv (g : GSem nD τ sig) (_ : Unit) : ℕ := lvl (knd g.2)

/-- No other core has levels. -/
theorem L_of_ne (g : GSem nD τ sig) (h : g.1.2 ≠ .tc) : L g = ∅ := if_neg h
/-- Each of the nine cells has its one level. -/
theorem L_k (ck : Dev nD × Fin 9) : L (kcell ck) = {()} := if_pos rfl
/-- Cell `k` is at level `lvl k`. -/
theorem lv_k (ck : Dev nD × Fin 9) (u : Unit) : lv (kcell ck) u = lvl ck.2 := by
  show lvl (knd (csem ck.2)) = _; rw [knd_csem]

/-- Everything owed in `O` lies above level `b`. -/
def Above (O : CellTallies nD τ sig Unit) (b : ℕ) : Prop :=
  ∀ g u, 0 < O g u → ∃ ck, g = kcell ck ∧ b < lvl ck.2

/-- Nothing owed lies above any level. -/
theorem above_zero (b : ℕ) : Above 0 b := fun _ _ h => absurd h (Nat.lt_irrefl 0)

/-- A further debt above the level keeps the whole above it. -/
theorem above_add {O : CellTallies nD τ sig Unit} {b : ℕ} (h : Above O b) (ck : Dev nD × Fin 9) (n : ℕ)
    (hb : b < lvl ck.2) : Above (O + tallyAt (kcell ck) () n) b := by
  intro g u hg
  rw [Pi.add_apply, Finsupp.add_apply, tallyAt_apply] at hg
  by_cases hh : g = kcell ck ∧ u = ()
  · exact ⟨ck, hh.1, hb⟩
  · rw [if_neg hh, Nat.add_zero] at hg
    exact h g u hg

/-- The second arrival lies above levels 0 and 1. -/
theorem above_O₂ (c : Dev nD) (b : ℕ) (hb : b < 2) : Above (O₂ c) b := by
  have h := above_add (above_zero b) (peer c, 8) NQ (by simpa [lvl] using hb)
  rwa [zero_add] at h
/-- Both arrivals lie above levels 0 and 1. -/
theorem above_O₁ (c : Dev nD) (b : ℕ) (hb : b < 2) : Above (O₁ c) b :=
  above_add (above_O₂ c b hb) (peer c, 7) NQ (by simpa [lvl] using hb)
/-- All that is owed at launch lies above level 0. -/
theorem above_O₀ (c : Dev nD) : Above (O₀ c) 0 :=
  above_add (above_O₁ c 0 (by decide)) (peer c, 0) 1 (by simp [lvl])

/-- A device may wait on its cell `k` while all it owes lies above that cell's level. -/
theorem may_wait (c : Dev nD) (k : Fin 9) (O : CellTallies nD τ sig Unit) (h : Above O (lvl k)) :
    (levAts L lv : sProp 𝕄) ⊢ MayWait (c : Thread nD τ) (csem k) () O :=
  MayOwe.of_cut (L := L) (lev := lv) (lvl k)
    (fun p hp => by
      rw [Finset.mem_singleton.mp hp]
      show () ∈ L (kcell (c, k))
      rw [L_k]; exact Finset.mem_singleton_self _)
    (fun g u hg => by obtain ⟨ck, rfl, -⟩ := h g u hg; rw [L_k]; exact Finset.mem_singleton_self _)
    (fun p hp => by
      rw [Finset.mem_singleton.mp hp]
      exact le_of_eq (lv_k (c, k) ()))
    (fun g u hg => by obtain ⟨ck, rfl, hb⟩ := h g u hg; rw [lv_k]; exact hb)

/-! ## The shared records -/

/-- Every cell's invariant, under the names `K`, and that every cell is at its round. -/
def records (K : Dev nD × Fin 9 → ℕ) : sProp 𝕄 :=
  iprop((bigSep Finset.univ fun ck : Dev nD × Fin 9 => cellInv ER (xRd m) (K ck) (kcell ck))
    ∗ bigSep Finset.univ fun ck : Dev nD × Fin 9 => reached ER (kcell ck) 0)

/-- The records may be shared freely. -/
instance records_persistent (K : Dev nD × Fin 9 → ℕ) : BI.Persistent (records (F := F) m K) := by unfold records; infer_instance

/-- The records give any cell's invariant. -/
theorem records_inv (K : Dev nD × Fin 9 → ℕ) (ck : Dev nD × Fin 9) :
    records (F := F) m K ⊢ cellInv ER (xRd m) (K ck) (kcell ck) := by
  have pick := bigSep_elim (Φ := fun g : Dev nD × Fin 9 => (cellInv ER (xRd (F := F) m) (K g) (kcell g) : sProp 𝕄)) (Finset.mem_univ ck)
  unfold records
  iintro ⟨H, -⟩
  ihave Hk := (show _ ⊢ _ from pick) $$ H
  iexact Hk

/-- The records give that any cell is at its round. -/
theorem records_reached (K : Dev nD × Fin 9 → ℕ) (ck : Dev nD × Fin 9) :
    records (F := F) m K ⊢ reached ER (kcell ck) 0 := by
  have pick := bigSep_elim (Φ := fun g : Dev nD × Fin 9 => (reached ER (kcell g) 0 : sProp 𝕄)) (Finset.mem_univ ck)
  unfold records
  iintro ⟨-, H⟩
  ihave Hk := (show _ ⊢ _ from pick) $$ H
  iexact Hk

/-- What device `c` owes, whatever it has waited for. -/
def due (c : Dev nD) (O : CellTallies nD τ sig Unit) : sProp 𝕄 := iprop(∃ W, owes (c : Thread nD τ) O W)

/-! ## One step of the program each -/

section Steps

variable (K : Dev nD × Fin 9 → ℕ) (c : Dev nD)

/-- A wait for the whole round of the device's own cell `j`: the cell's handover comes back and the
    cell is closed at zero. -/
theorem wait_step {α : Type} {Q : α → sProp 𝕄} {k : PUnit → Prog (TpuEff nD τ sig (Elt F) Λ₀ .tc) α}
    (j : Fin 9) {sm : SemLoc sig} (hsm : csem j = sm) {n : ℕ} (hn : n = amt j)
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ sm n X)
    (O : CellTallies nD τ sig Unit) (hO : Above O (lvl j)) :
    iprop(records m K ∗ levAts L lv ∗ cred (tallyAt (kcell (c, j)) () (amt j)) ∗ due c O ∗ atPos ER (kcell (c, j)) 0 ∅ 0)
      ⊢ iprop(((due c O ∗ semVal (kcell (c, j)) 0 ∗ pay m j c) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm hn
  unfold due
  iintro ⟨#HR, #Hlev, Hc, ⟨%W, HO⟩, Hat⟩ Hk
  iapply (Rounds.wp_wait_rest_token 𝒱₀ ER (xRd m) (c : Thread nD τ) none (κ := K (c, j)) hw (Set.mem_univ _) () (O := O) (W := W)
      (R := 0) (m := 0) (T := ∅) ((Nat.zero_add _).trans (expect_k m c j).symm)) $$ [Hc HO Hat]
  · isplitr; · iapply (records_inv m K (c, j)); iexact HR
    isplitl [Hc]; · iexact Hc
    isplitl [HO]; · iexact HO
    isplitr; · iapply (may_wait c j O hO); iexact Hlev
    iexact Hat
  iintro ⟨HO, Hat, -, Hp⟩
  ihave Hp := (Entails.of_eq (rest_k m c j)) $$ Hp
  imod (Rounds.cell_close ER (xRd m) (Set.mem_univ (K (c, j))) (fun h => h) (R := 0 + 1) (duties_later m (kcell (c, j)))) $$ [Hat] with Hz
  · isplitr; · iapply (records_inv m K (c, j)); iexact HR
    iexact Hat
  iapply Hk
  isplitl [HO]; · iexists _; iexact HO
  isplitl [Hz] <;> iassumption

/-- A copy on the device itself that raises its own cell `j`. -/
theorem copy_step {α : Type} {Q : α → sProp 𝕄} {k : PUnit → Prog (TpuEff nD τ sig (Elt F) Λ₀ .tc) α}
    (j : Fin 9) {sm : SemLoc sig} (hsm : csem j = sm) {sp sp' : Space} {s : Shape} {e : EltTy}
    {src : Memref sig .tc sp s e} {dst : Memref sig .tc sp' s e}
    {hsrc : src.view.WordExact} {hdst : dst.view.WordExact} {hsem : DmaTarget.Typed (nD := nD) (p := Proc.tc) sp sm (.here dst)}
    (hN : dst.view.amount sm = amt j)
    (fs : Buf (Elt F) (src.view.loc (c : Thread nD τ))) (fd : Buf (Elt F) (dst.view.loc (c : Thread nD τ)))
    (hpay : iprop(part dst c (dst.view.write (Elt F) fd (src.view.read (Elt F) fs) Finset.univ) ∗ part src c fs) ⊢ pay m j c) :
    iprop(records m K ∗ part src c fs ∗ part dst c fd ∗ dutyTok ER (kcell (c, j)) 0 ())
      ⊢ iprop((cred (tallyAt (kcell (c, j)) () (amt j)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) sm hsrc hdst hsem) k) Q) := by
  subst hsm
  iintro ⟨#HR, Hs, Hd, Ht⟩ Hk
  iapply (Rounds.wp_copy_pointsTo 𝒱₀ ER (xRd m) (c : Thread nD τ) none (κ := K (c, j)) (r := 0) (d := ()) (fd := fd) (fs := fs) (q := fullShare)
      (by rw [duties_now]; exact Finset.mem_singleton_self _) () (amt j) hN (amount_k m c j)
      (hpay.trans (Entails.of_eq (payload_k m c j).symm))) $$ [Hs Hd Ht]
  · isplitr; · iapply (records_inv m K (c, j)); iexact HR
    isplitl [Hs]; · iexact Hs
    isplitl [Hd]; · iexact Hd
    isplitl [Ht]; · iexact Ht
    iapply (records_reached m K (c, j)); iexact HR
  iexact Hk

/-- A transfer to the partner that raises the device's own cell `i` and the partner's cell `j`. -/
theorem send_step {α : Type} {Q : α → sProp 𝕄} {k : PUnit → Prog (TpuEff nD τ sig (Elt F) Λ₀ .tc) α}
    (i j : Fin 9) {si sj : SemLoc sig} (hsi : csem i = si) (hsj : csem j = sj) (n : Dev nD) (hn : n = peer c)
    {sp sp' : Space} {s : Shape} {e : EltTy}
    {src : Memref sig .tc sp s e} {dst : Memref sig .tc sp' s e}
    {hsc : (dst : Memref sig (Dev.tc n : Thread nD τ).2.kind sp' s e).view.ref.isScScratch = false}
    {hsrc : src.view.WordExact} {hdst : dst.view.WordExact}
    {hsem : DmaTarget.Typed sp sj (.remote (Dev.tc n : Thread nD τ) dst si hsc)}
    (hN : dst.view.amount sj = NQ) (hi : amt i = NQ) (hj : amt j = NQ)
    (O : CellTallies nD τ sig Unit)
    (fs : Buf (Elt F) (src.view.loc (c : Thread nD τ))) (fd : Buf (Elt F) (dst.view.loc (peer c : Thread nD τ)))
    (hpay₁ : part src c fs ⊢ pay m i c)
    (hpay₂ : part dst (peer c) (dst.view.write (Elt F) fd (src.view.read (Elt F) fs) Finset.univ) ⊢ pay m j (peer c)) :
    iprop(records m K ∗ part src c fs ∗ part dst (peer c) fd ∗ due c (O + tallyAt (kcell (peer c, j)) () NQ)
        ∗ dutyTok ER (kcell (c, i)) 0 () ∗ dutyTok ER (kcell (peer c, j)) 0 ())
      ⊢ iprop(((cred (tallyAt (kcell (c, i)) () (amt i)) ∗ due c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst si hsc) sj hsrc hdst hsem) k) Q) := by
  subst hsi hsj hn
  unfold due
  rw [hi]
  iintro ⟨#HR, Hs, Hd, ⟨%W, HO⟩, Ht₁, Ht₂⟩ Hk
  iapply (Rounds.wp_send_pointsTo 𝒱₀ ER (xRd m) (c : Thread nD τ) none (κ₁ := K (c, i)) (κ₂ := K (peer c, j))
      (r₁ := 0) (r₂ := 0) (d₁ := ()) (d₂ := ()) (fs := fs) (fd := fd) (q := fullShare)
      (by rw [duties_now]; exact Finset.mem_singleton_self _) (by rw [duties_now]; exact Finset.mem_singleton_self _)
      () () NQ hN ((amount_k m c i).trans hi) ((amount_k m (peer c) j).trans hj) O rfl (W := W)
      (hpay₁.trans (Entails.of_eq (payload_k m c i).symm)) (hpay₂.trans (Entails.of_eq (payload_k m (peer c) j).symm)))
    $$ [Hs Hd HO Ht₁ Ht₂]
  · isplitr; · iapply (records_inv m K (c, i)); iexact HR
    isplitr; · iapply (records_inv m K (peer c, j)); iexact HR
    isplitl [Hs]; · iexact Hs
    isplitl [Hd]; · iexact Hd
    isplitl [HO]; · iexact HO
    isplitl [Ht₁]; · iexact Ht₁
    isplitr; · iapply (records_reached m K (c, i)); iexact HR
    isplitl [Ht₂]; · iexact Ht₂
    iapply (records_reached m K (peer c, j)); iexact HR
  iintro ⟨Hc, HO⟩
  iapply Hk
  isplitl [Hc]; · iexact Hc
  iexists W; iexact HO

/-- The entry signal to the partner, which hands it the landing places in this device's result. -/
theorem signal_step {α : Type} {Q : α → sProp 𝕄} {k : PUnit → Prog (TpuEff nD τ sig (Elt F) Λ₀ .tc) α}
    (n : Dev nD) (hn : n = peer c) {u : Int} (hu : u = ((1 : ℕ) : Int)) (O : CellTallies nD τ sig Unit) :
    iprop(records m K ∗ due c (O + tallyAt (kcell (peer c, 0)) () 1) ∗ dutyTok ER (kcell (peer c, 0)) 0 () ∗ pay m 0 (peer c))
      ⊢ iprop((due c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS u) k) Q) := by
  subst hn hu
  unfold due
  iintro ⟨#HR, ⟨%W, HO⟩, Ht, Hp⟩ Hk
  iapply (Rounds.wp_signal 𝒱₀ ER (xRd m) (c : Thread nD τ) none (dst := (peer c : Thread nD τ)) (κ := K (peer c, 0)) (r := 0)
      (d := ()) (by rw [duties_now]; exact Finset.mem_singleton_self _) (amount_k m (peer c) 0) () O rfl (W := W)) $$ [HO Ht Hp]
  · isplitr; · iapply (records_inv m K (peer c, 0)); iexact HR
    isplitl [HO]; · iexact HO
    isplitl [Ht]; · iexact Ht
    isplitl [Hp]; · iapply (Entails.of_eq (payload_bar m (peer c)).symm); iexact Hp
    iapply (records_reached m K (peer c, 0)); iexact HR
  iintro HO
  iapply Hk
  iexists W; iexact HO

end Steps

end Cert.KernelIdeal.Xchg

end
-- ==== Proof.Body.lean ====
/- The kernel body on one device, run from what the launch hands it to what it leaves, one effect at a
   time. -/
module

public import proofs.«01_k».proof.Proof.Protocol

@[expose] public section

set_option maxRecDepth 16384

noncomputable section

namespace Cert.KernelIdeal.Xchg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## Contents moved by a landing -/

/-- A held piece may be read as any contents that agree on it. -/
theorem part_congr {sp : Space} {s : Shape} {e : EltTy} (M : Memref sig .tc sp s e) (c : Dev nD)
    (f g : Buf (Elt F) (M.view.loc (c : Thread nD τ))) (h : ∀ i ∈ M.view.set, f i = g i) :
    (part M c f : sProp 𝕄) ⊢ part M c g := Entails.of_eq (pointsTo_congr h)

/-- The first staging copy hands over the upper quarter. -/
theorem land_1 (c : Dev nD) (fd : Buf (Elt F) (aT.view.loc (c : Thread nD τ))) :
    iprop(part aT c (aT.view.write (Elt F) fd ((x1 c).view.read (Elt F) (xAt m c)) Finset.univ) ∗ part (x1 c) c (xAt m c))
      ⊢ (pay m 1 c : sProp 𝕄) :=
  sep_mono_left (part_congr aT c _ _ (landing (x1 c).view aT.view _ _ _ (read_aT m c)))

/-- The second staging copy hands over the lower quarter. -/
theorem land_2 (c : Dev nD) (fd : Buf (Elt F) (aB.view.loc (c : Thread nD τ))) :
    iprop(part aB c (aB.view.write (Elt F) fd ((x2 c).view.read (Elt F) (xAt m c)) Finset.univ) ∗ part (x2 c) c (xAt m c))
      ⊢ (pay m 2 c : sProp 𝕄) :=
  sep_mono_left (part_congr aB c _ _ (landing (x2 c).view aB.view _ _ _ (read_aB m c)))

/-- The third staging copy hands over the half that stays. -/
theorem land_3 (c : Dev nD) (fd : Buf (Elt F) (bM.view.loc (c : Thread nD τ))) :
    iprop(part bM c (bM.view.write (Elt F) fd ((x5 c).view.read (Elt F) (xAt m c)) Finset.univ) ∗ part (x5 c) c (xAt m c))
      ⊢ (pay m 3 c : sProp 𝕄) :=
  sep_mono_left (part_congr bM c _ _ (landing (x5 c).view bM.view _ _ _ (read_bM m c)))

/-- The copy to the device's own result hands over the rows it keeps. -/
theorem land_4 (c : Dev nD) (fd : Buf (Elt F) ((o6 c).view.loc (c : Thread nD τ))) :
    iprop(part (o6 c) c ((o6 c).view.write (Elt F) fd (gM.view.read (Elt F) (keptH m c)) Finset.univ) ∗ part gM c (keptH m c))
      ⊢ (pay m 4 c : sProp 𝕄) :=
  sep_mono_left (part_congr (o6 c) c _ _ (landing gM.view (o6 c).view _ _ _ (read_o6 m c)))

/-- The first transfer hands the partner its upper rows. -/
theorem land_7 (c : Dev nD) (fd : Buf (Elt F) ((o3 c).view.loc (peer c : Thread nD τ))) :
    part (o3 c) (peer c) ((o3 c).view.write (Elt F) fd (hT.view.read (Elt F) (sentH m c)) Finset.univ)
      ⊢ (pay m 7 (peer c) : sProp 𝕄) := by
  have h : ∀ d, d = c → (part (o3 c) (peer c) ((o3 c).view.write (Elt F) fd (hT.view.read (Elt F) (sentH m c)) Finset.univ) : sProp 𝕄)
      ⊢ part (o3 d) (peer c) (outF m (peer c)) := by
    rintro d rfl
    exact part_congr (o3 d) (peer d) _ _ (landing hT.view (o3 d).view _ _ _ (read_o3 m d))
  exact h _ (peer_peer c)

/-- The second transfer hands the partner its lower rows. -/
theorem land_8 (c : Dev nD) (fd : Buf (Elt F) ((o4 c).view.loc (peer c : Thread nD τ))) :
    part (o4 c) (peer c) ((o4 c).view.write (Elt F) fd (hB.view.read (Elt F) (sentH m c)) Finset.univ)
      ⊢ (pay m 8 (peer c) : sProp 𝕄) := by
  have h : ∀ d, d = c → (part (o4 c) (peer c) ((o4 c).view.write (Elt F) fd (hB.view.read (Elt F) (sentH m c)) Finset.univ) : sProp 𝕄)
      ⊢ part (o4 d) (peer c) (outF m (peer c)) := by
    rintro d rfl
    exact part_congr (o4 d) (peer d) _ _ (landing hB.view (o4 d).view _ _ _ (read_o4 m d))
  exact h _ (peer_peer c)

/-- The landing places of a device's own result are what its entry signal hands the partner. -/
theorem entry_pay (c : Dev nD) :
    iprop((∃ f, part (o3 (peer c)) c f) ∗ (∃ f, part (o4 (peer c)) c f)) ⊢ (pay m 0 (peer c) : sProp 𝕄) := by
  have h : ∀ d, d = c → (iprop((∃ f, part (o3 (peer c)) c f) ∗ (∃ f, part (o4 (peer c)) c f)) : sProp 𝕄)
      ⊢ iprop((∃ f, part (o3 (peer c)) d f) ∗ (∃ f, part (o4 (peer c)) d f)) := by
    rintro d rfl; exact BI.Entails.refl _
  exact h _ (peer_peer c)

/-! ## Loads and stores -/

/-- The first load of the staged block reads inside its upper half. -/
theorem load_top (c : Dev nD) : aM.view.setOn rTop.toLoadRect.set ⊆ aT.view.set :=
  (View.set_slice (v := aM.view) rTop).ge
/-- The second load of the staged block reads inside its lower half. -/
theorem load_bot (c : Dev nD) : aM.view.setOn rBot.toLoadRect.set ⊆ aB.view.set :=
  (View.set_slice (v := aM.view) rBot).ge
/-- The load before the first store reads inside the upper half to be sent. -/
theorem load_topH (c : Dev nD) : hM.view.setOn rTop.toLoadRect.set ⊆ hT.view.set :=
  (View.set_slice (v := hM.view) rTop).ge
/-- The load before the second store reads inside the lower half to be sent. -/
theorem load_botH (c : Dev nD) : hM.view.setOn rBot.toLoadRect.set ⊆ hB.view.set :=
  (View.set_slice (v := hM.view) rBot).ge
/-- The third load reads inside the staged half that stays. -/
theorem load_all (c : Dev nD) : bM.view.setOn rAll.toLoadRect.set ⊆ bM.view.set := by
  rw [View.set_whole]; exact Finset.subset_univ _
/-- The load before the third store reads inside the converted half that stays. -/
theorem load_allG (c : Dev nD) : gM.view.setOn rAll.toLoadRect.set ⊆ gM.view.set := by
  rw [View.set_whole]; exact Finset.subset_univ _
/-- The first store writes inside the upper half to be sent. -/
theorem store_top (c : Dev nD) : (hM.access rTop).setOn Finset.univ ⊆ hT.view.set := Finset.Subset.refl _
/-- The second store writes inside the lower half to be sent. -/
theorem store_bot (c : Dev nD) : (hM.access rBot).setOn Finset.univ ⊆ hB.view.set := Finset.Subset.refl _
/-- The third store writes inside the converted half that stays. -/
theorem store_all (c : Dev nD) : (gM.access rAll).setOn Finset.univ ⊆ gM.view.set := by
  rw [View.set_whole]; exact Finset.subset_univ _

/-- All of a staging buffer is every element of it. -/
theorem all_set : (gM.access rAll).set = Finset.univ := by
  rw [show (gM.access rAll).set = rAll.set from View.set_slice_whole _ _]
  ext i
  have h0 : (i 0).val < 1024 := (i 0).isLt
  have h1 : (i 1).val < 512 := (i 1).isLt
  simp only [Rect.mem_set_unit, Finset.mem_univ, iff_true, Fin.forall_fin_two]
  show (0 ≤ (i 0).val ∧ (i 0).val < 0 + 1024) ∧ (0 ≤ (i 1).val ∧ (i 1).val < 0 + 512)
  omega

/-- After the first store the upper half to be sent is in place. -/
theorem store_1 (c : Dev nD) (f : Buf (Elt F) (hT.view.loc (c : Thread nD τ))) :
    (part hT c ((hM.access rTop).write (Elt F) f (k0_pay1 (aM.view.readAt (Elt F) rTop.toLoadRect (stageS m c))) Finset.univ) : sProp 𝕄)
      ⊢ part hT c (sentH m c) :=
  part_congr hT c _ _ (stored hT.view _ _ _ (pay1_eq m c))

/-- After the second store the lower half to be sent is in place. -/
theorem store_2 (c : Dev nD) (f : Buf (Elt F) (hB.view.loc (c : Thread nD τ))) :
    (part hB c ((hM.access rBot).write (Elt F) f (k0_pay2 (aM.view.readAt (Elt F) rBot.toLoadRect (stageS m c))) Finset.univ) : sProp 𝕄)
      ⊢ part hB c (sentH m c) :=
  part_congr hB c _ _ (stored hB.view _ _ _ (pay2_eq m c))

/-- After the third store the half that stays is in place. -/
theorem store_3 (c : Dev nD) (f : Buf (Elt F) (gM.view.loc (c : Thread nD τ))) :
    (part gM c ((gM.access rAll).write (Elt F) f (k0_pay3 (bM.view.readAt (Elt F) rAll.toLoadRect (stageK m c))) Finset.univ) : sProp 𝕄)
      ⊢ part gM c (keptH m c) :=
  part_congr gM c _ _ (fun i _ => stored (gM.access rAll) _ _ _ (pay3_eq m c) i (by rw [all_set]; exact Finset.mem_univ i))

/-! ## Units -/

/-- The first staging copy raises its cell by that cell's units. -/
theorem units_1 : aT.view.amount (csem 1) = amt 1 := rfl
/-- So does the second. -/
theorem units_2 : aB.view.amount (csem 2) = amt 2 := rfl
/-- So does the third. -/
theorem units_3 : bM.view.amount (csem 3) = amt 3 := rfl
/-- The copy to the result raises its cell by that cell's units. -/
theorem units_4 (c : Dev nD) : (o6 c).view.amount (csem 4) = amt 4 := rfl
/-- The first transfer raises the partner's cell by a quarter's units. -/
theorem units_7 (c : Dev nD) : (o3 c).view.amount (csem 7) = NQ := credit_o3 c
/-- So does the second. -/
theorem units_8 (c : Dev nD) : (o4 c).view.amount (csem 8) = NQ := credit_o4 c

/-- The wait for the first staging copy is for its cell's units. -/
theorem awaits_1 : aT.view.dmaCredit = amt 1 := rfl
/-- So is the wait for the second. -/
theorem awaits_2 : aB.view.dmaCredit = amt 2 := rfl
/-- So is the wait for the third. -/
theorem awaits_3 : bM.view.dmaCredit = amt 3 := rfl
/-- So is the wait for the copy to the result. -/
theorem awaits_4 (c : Dev nD) : (o6 c).view.dmaCredit = amt 4 := rfl
/-- So is the wait for the first send. -/
theorem awaits_5 : hT.view.dmaCredit = amt 5 := rfl
/-- So is the wait for the second send. -/
theorem awaits_6 : hB.view.dmaCredit = amt 6 := credit_hB
/-- So is the wait for the first arrival. -/
theorem awaits_7 (c : Dev nD) : (o3 c).view.dmaCredit = amt 7 := credit_o3 c
/-- So is the wait for the second arrival. -/
theorem awaits_8 (c : Dev nD) : (o4 c).view.dmaCredit = amt 8 := credit_o4 c

/-! ## The whole body -/

variable (K : Dev nD × Fin 9 → ℕ)

/-- What the body takes: the shared records, its debts and credits, its place in every cell's round, the
    right to raise every cell it raises, and its buffers cut into the pieces the program names. -/
def bodyPre (c : Dev nD) : sProp 𝕄 :=
  iprop(records m K ∗ levAts L lv ∗ due c (O₀ c)
    ∗ (cred (tallyAt (kcell (c, 0)) () (amt 0)) ∗ cred (tallyAt (kcell (c, 7)) () (amt 7)) ∗ cred (tallyAt (kcell (c, 8)) () (amt 8)))
    ∗ (atPos ER (kcell (c, 0)) 0 ∅ 0 ∗ atPos ER (kcell (c, 1)) 0 ∅ 0 ∗ atPos ER (kcell (c, 2)) 0 ∅ 0
      ∗ atPos ER (kcell (c, 3)) 0 ∅ 0 ∗ atPos ER (kcell (c, 4)) 0 ∅ 0 ∗ atPos ER (kcell (c, 5)) 0 ∅ 0
      ∗ atPos ER (kcell (c, 6)) 0 ∅ 0 ∗ atPos ER (kcell (c, 7)) 0 ∅ 0 ∗ atPos ER (kcell (c, 8)) 0 ∅ 0)
    ∗ (dutyTok ER (kcell (peer c, 0)) 0 () ∗ dutyTok ER (kcell (c, 1)) 0 () ∗ dutyTok ER (kcell (c, 2)) 0 ()
      ∗ dutyTok ER (kcell (c, 3)) 0 () ∗ dutyTok ER (kcell (c, 4)) 0 () ∗ dutyTok ER (kcell (c, 5)) 0 ()
      ∗ dutyTok ER (kcell (c, 6)) 0 () ∗ dutyTok ER (kcell (peer c, 7)) 0 () ∗ dutyTok ER (kcell (peer c, 8)) 0 ())
    ∗ (part (x1 c) c (xAt m c) ∗ part (x2 c) c (xAt m c) ∗ part (x5 c) c (xAt m c))
    ∗ ((∃ f, part (o3 (peer c)) c f) ∗ (∃ f, part (o4 (peer c)) c f) ∗ (∃ f, part (o6 c) c f))
    ∗ ((∃ f, part aT c f) ∗ (∃ f, part aB c f)) ∗ (∃ f, part bM c f)
    ∗ ((∃ f, part hT c f) ∗ (∃ f, part hB c f)) ∗ (∃ f, part gM c f))

/-- What the body leaves: nothing owed, every cell of the device closed at zero, the argument as it was,
    the result at its final contents, and the staging buffers. -/
def bodyPost (c : Dev nD) : sProp 𝕄 :=
  iprop(due c 0
    ∗ (semVal (kcell (c, 0)) 0 ∗ semVal (kcell (c, 1)) 0 ∗ semVal (kcell (c, 2)) 0 ∗ semVal (kcell (c, 3)) 0
      ∗ semVal (kcell (c, 4)) 0 ∗ semVal (kcell (c, 5)) 0 ∗ semVal (kcell (c, 6)) 0 ∗ semVal (kcell (c, 7)) 0 ∗ semVal (kcell (c, 8)) 0)
    ∗ (part (x1 c) c (xAt m c) ∗ part (x2 c) c (xAt m c) ∗ part (x5 c) c (xAt m c))
    ∗ (part (o3 (peer c)) c (outF m c) ∗ part (o4 (peer c)) c (outF m c) ∗ part (o6 c) c (outF m c))
    ∗ (part aT c (stageS m c) ∗ part aB c (stageS m c)) ∗ part bM c (stageK m c)
    ∗ (part hT c (sentH m c) ∗ part hB c (sentH m c)) ∗ part gM c (keptH m c))

set_option maxHeartbeats 4000000 in
/-- The body takes a device from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  simp only [cc0_body_eq_skeleton]; unfold cc0_body_skel
  simp only [k0_part4_eq_skeleton]; unfold k0_part4_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre O₀
  iintro ⟨⟨#HR, #Hlev, HO, ⟨Hc0, Hc7, Hc8⟩, ⟨Ha0, Ha1, Ha2, Ha3, Ha4, Ha5, Ha6, Ha7, Ha8⟩,
    ⟨Ht0, Ht1, Ht2, Ht3, Ht4, Ht5, Ht6, Ht7, Ht8⟩, ⟨Hx1, Hx2, Hx5⟩, ⟨Ho3, Ho4, ⟨%fo, Ho6⟩⟩,
    ⟨⟨%fa, HaT⟩, ⟨%fb, HaB⟩⟩, ⟨%fm, Hb⟩, ⟨⟨%fh, HhT⟩, ⟨%fk, HhB⟩⟩, ⟨%fg, Hg⟩⟩, Hk⟩
  -- the entry signal
  iapply (signal_step m K c _ (dev1_peer c) (by rfl) (O₁ c)) $$ [HO Ht0 Ho3 Ho4]
  · isplitr; · iexact HR
    isplitl [HO]; · iexact HO
    isplitl [Ht0]; · iexact Ht0
    iapply (entry_pay m c)
    isplitl [Ho3] <;> iassumption
  iintro HO
  -- the two staging copies of the quarters that leave
  iapply (copy_step m K c 1 rfl (src := x1 c) (dst := aT) units_1 (xAt m c) fa (land_1 m c fa)) $$ [Hx1 HaT Ht1]
  · isplitr; · iexact HR
    isplitl [Hx1]; · iexact Hx1
    isplitl [HaT] <;> iassumption
  iintro Hc1
  iapply (copy_step m K c 2 rfl (src := x2 c) (dst := aB) units_2 (xAt m c) fb (land_2 m c fb)) $$ [Hx2 HaB Ht2]
  · isplitr; · iexact HR
    isplitl [Hx2]; · iexact Hx2
    isplitl [HaB] <;> iassumption
  iintro Hc2
  -- the first quarter staged, converted and stored
  iapply (wait_step m K c 1 rfl awaits_1 (wpE_waitDma2_eq 𝒱₀ (c : Thread nD τ) none Set.univ) (O₁ c) (above_O₁ c _ (by decide))) $$ [Hc1 HO Ha1]
  · isplitr; · iexact HR
    isplitr; · iexact Hlev
    isplitl [Hc1]; · iexact Hc1
    isplitl [HO] <;> iassumption
  iintro ⟨HO, Hz1, Hp⟩
  ihave Hp := (show (pay m 1 c : sProp 𝕄) ⊢ iprop(part aT c (stageS m c) ∗ part (x1 c) c (xAt m c)) from BI.Entails.refl _) $$ Hp
  icases Hp with ⟨HaT, Hx1⟩
  iapply (wp_load 𝒱₀ (c : Thread nD τ) none Set.univ (m := aM) (load_top c)) $$ HaT; iintro HaT
  iapply (wp_load 𝒱₀ (c : Thread nD τ) none Set.univ (m := hM) (load_topH c)) $$ HhT; iintro HhT
  iapply (wp_store 𝒱₀ (c : Thread nD τ) none Set.univ (m := hM) (r := rTop) (Mk := Finset.univ) (store_top c)) $$ HhT; iintro HhT
  ihave HhT := (store_1 m c fh) $$ HhT
  -- the wait for the partner's entry
  iapply (wait_step m K c 0 rfl (n := 1) rfl (fun X => wpE_semWait_eq 𝒱₀ (c : Thread nD τ) none Set.univ (k := 1) X) (O₁ c) (above_O₁ c _ (by decide))) $$ [Hc0 HO Ha0]
  · isplitr; · iexact HR
    isplitr; · iexact Hlev
    isplitl [Hc0]; · iexact Hc0
    isplitl [HO] <;> iassumption
  iintro ⟨HO, Hz0, Hp⟩
  ihave Hp := (show (pay m 0 c : sProp 𝕄) ⊢ iprop((∃ f, part (o3 c) (peer c) f) ∗ (∃ f, part (o4 c) (peer c) f)) from BI.Entails.refl _) $$ Hp
  icases Hp with ⟨⟨%f3, Hq3⟩, ⟨%f4, Hq4⟩⟩
  -- the first transfer
  iapply (send_step m K c 5 7 rfl rfl _ (dev2_peer c) (src := hT) (dst := o3 c) (units_7 c) rfl rfl (O₂ c) (sentH m c) f3 (BI.Entails.refl _) (land_7 m c f3)) $$ [HhT Hq3 HO Ht5 Ht7]
  · isplitr; · iexact HR
    isplitl [HhT]; · iexact HhT
    isplitl [Hq3]; · iexact Hq3
    isplitl [HO]; · iexact HO
    isplitl [Ht5] <;> iassumption
  iintro ⟨Hc5, HO⟩
  -- the second quarter staged, converted and stored
  iapply (wait_step m K c 2 rfl awaits_2 (wpE_waitDma2_eq 𝒱₀ (c : Thread nD τ) none Set.univ) (O₂ c) (above_O₂ c _ (by decide))) $$ [Hc2 HO Ha2]
  · isplitr; · iexact HR
    isplitr; · iexact Hlev
    isplitl [Hc2]; · iexact Hc2
    isplitl [HO] <;> iassumption
  iintro ⟨HO, Hz2, Hp⟩
  ihave Hp := (show (pay m 2 c : sProp 𝕄) ⊢ iprop(part aB c (stageS m c) ∗ part (x2 c) c (xAt m c)) from BI.Entails.refl _) $$ Hp
  icases Hp with ⟨HaB, Hx2⟩
  iapply (wp_load 𝒱₀ (c : Thread nD τ) none Set.univ (m := aM) (load_bot c)) $$ HaB; iintro HaB
  iapply (wp_load 𝒱₀ (c : Thread nD τ) none Set.univ (m := hM) (load_botH c)) $$ HhB; iintro HhB
  iapply (wp_store 𝒱₀ (c : Thread nD τ) none Set.univ (m := hM) (r := rBot) (Mk := Finset.univ) (store_bot c)) $$ HhB; iintro HhB
  ihave HhB := (store_2 m c fk) $$ HhB
  -- the second transfer
  iapply (send_step m K c 6 8 rfl rfl _ (dev3_peer c) (src := hB) (dst := o4 c) (units_8 c) rfl rfl 0 (sentH m c) f4 (BI.Entails.refl _) (land_8 m c f4)) $$ [HhB Hq4 HO Ht6 Ht8]
  · isplitr; · iexact HR
    isplitl [HhB]; · iexact HhB
    isplitl [Hq4]; · iexact Hq4
    isplitl [HO]; · rw [zero_add]; iexact HO
    isplitl [Ht6] <;> iassumption
  iintro ⟨Hc6, HO⟩
  -- the half that stays: staged, converted, stored, copied to the result
  iapply (copy_step m K c 3 rfl (src := x5 c) (dst := bM) units_3 (xAt m c) fm (land_3 m c fm)) $$ [Hx5 Hb Ht3]
  · isplitr; · iexact HR
    isplitl [Hx5]; · iexact Hx5
    isplitl [Hb] <;> iassumption
  iintro Hc3
  iapply (wait_step m K c 3 rfl awaits_3 (wpE_waitDma2_eq 𝒱₀ (c : Thread nD τ) none Set.univ) 0 (above_zero _)) $$ [Hc3 HO Ha3]
  · isplitr; · iexact HR
    isplitr; · iexact Hlev
    isplitl [Hc3]; · iexact Hc3
    isplitl [HO] <;> iassumption
  iintro ⟨HO, Hz3, Hp⟩
  ihave Hp := (show (pay m 3 c : sProp 𝕄) ⊢ iprop(part bM c (stageK m c) ∗ part (x5 c) c (xAt m c)) from BI.Entails.refl _) $$ Hp
  icases Hp with ⟨Hb, Hx5⟩
  iapply (wp_load 𝒱₀ (c : Thread nD τ) none Set.univ (m := bM) (load_all c)) $$ Hb; iintro Hb
  iapply (wp_load 𝒱₀ (c : Thread nD τ) none Set.univ (m := gM) (load_allG c)) $$ Hg; iintro Hg
  iapply (wp_store 𝒱₀ (c : Thread nD τ) none Set.univ (m := gM) (r := rAll) (Mk := Finset.univ) (store_all c)) $$ Hg; iintro Hg
  ihave Hg := (store_3 m c fg) $$ Hg
  iapply (copy_step m K c 4 rfl (src := gM) (dst := o6 c) (units_4 c) (keptH m c) fo (land_4 m c fo)) $$ [Hg Ho6 Ht4]
  · isplitr; · iexact HR
    isplitl [Hg]; · iexact Hg
    isplitl [Ho6] <;> iassumption
  iintro Hc4
  iapply (wait_step m K c 4 rfl (awaits_4 c) (wpE_waitDma2_eq 𝒱₀ (c : Thread nD τ) none Set.univ) 0 (above_zero _)) $$ [Hc4 HO Ha4]
  · isplitr; · iexact HR
    isplitr; · iexact Hlev
    isplitl [Hc4]; · iexact Hc4
    isplitl [HO] <;> iassumption
  iintro ⟨HO, Hz4, Hp⟩
  ihave Hp := (show (pay m 4 c : sProp 𝕄) ⊢ iprop(part (o6 c) c (outF m c) ∗ part gM c (keptH m c)) from BI.Entails.refl _) $$ Hp
  icases Hp with ⟨Ho6, Hg⟩
  -- the four closing waits
  iapply (wait_step m K c 5 rfl awaits_5 (wpE_waitDma2_eq 𝒱₀ (c : Thread nD τ) none Set.univ) 0 (above_zero _)) $$ [Hc5 HO Ha5]
  · isplitr; · iexact HR
    isplitr; · iexact Hlev
    isplitl [Hc5]; · iexact Hc5
    isplitl [HO] <;> iassumption
  iintro ⟨HO, Hz5, HhT⟩
  ihave HhT := (show (pay m 5 c : sProp 𝕄) ⊢ part hT c (sentH m c) from BI.Entails.refl _) $$ HhT
  iapply (wait_step m K c 7 rfl (awaits_7 c) (wpE_waitDma2_eq 𝒱₀ (c : Thread nD τ) none Set.univ) 0 (above_zero _)) $$ [Hc7 HO Ha7]
  · isplitr; · iexact HR
    isplitr; · iexact Hlev
    isplitl [Hc7]; · iexact Hc7
    isplitl [HO] <;> iassumption
  iintro ⟨HO, Hz7, Ho3⟩
  ihave Ho3 := (show (pay m 7 c : sProp 𝕄) ⊢ part (o3 (peer c)) c (outF m c) from BI.Entails.refl _) $$ Ho3
  iapply (wait_step m K c 6 rfl awaits_6 (wpE_waitDma2_eq 𝒱₀ (c : Thread nD τ) none Set.univ) 0 (above_zero _)) $$ [Hc6 HO Ha6]
  · isplitr; · iexact HR
    isplitr; · iexact Hlev
    isplitl [Hc6]; · iexact Hc6
    isplitl [HO] <;> iassumption
  iintro ⟨HO, Hz6, HhB⟩
  ihave HhB := (show (pay m 6 c : sProp 𝕄) ⊢ part hB c (sentH m c) from BI.Entails.refl _) $$ HhB
  iapply (wait_step m K c 8 rfl (awaits_8 c) (wpE_waitDma2_eq 𝒱₀ (c : Thread nD τ) none Set.univ) 0 (above_zero _)) $$ [Hc8 HO Ha8]
  · isplitr; · iexact HR
    isplitr; · iexact Hlev
    isplitl [Hc8]; · iexact Hc8
    isplitl [HO] <;> iassumption
  iintro ⟨HO, Hz8, Ho4⟩
  ihave Ho4 := (show (pay m 8 c : sProp 𝕄) ⊢ part (o4 (peer c)) c (outF m c) from BI.Entails.refl _) $$ Ho4
  rw [wp_ret]; imodintro
  iapply Hk
  unfold bodyPost
  isplitl [HO]; · iexact HO
  isplitl [Hz0 Hz1 Hz2 Hz3 Hz4 Hz5 Hz6 Hz7 Hz8]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7] <;> iassumption
  isplitl [Hx1 Hx2 Hx5]
  · isplitl [Hx1]; · iexact Hx1
    isplitl [Hx2] <;> iassumption
  isplitl [Ho3 Ho4 Ho6]
  · isplitl [Ho3]; · iexact Ho3
    isplitl [Ho4]; · iexact Ho4
    iexact Ho6
  isplitl [HaT HaB]
  · isplitl [HaT] <;> iassumption
  isplitl [Hb]; · iexact Hb
  isplitl [HhT HhB]
  · isplitl [HhT]; · iexact HhT
    iexact HhB
  iexact Hg

end Cert.KernelIdeal.Xchg

end
-- ==== Proof.Launch.lean ====
/- The launch of the exchange: buffers cut into the pieces the body names and joined again, the cells
   made and their contributions dealt out, the debts funded, and the run of the whole program. -/
module

public import proofs.«01_k».proof.Proof.Body
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.KernelIdeal.Xchg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Cutting buffers and joining them -/

/-- A whole buffer is the two parts that make it up. -/
theorem cut_two {ℓ : Loc nD τ sig} {A B : Finset (Idx ℓ)} (f : Buf (Elt F) ℓ) (h : Disjoint A B) (hU : A ∪ B = Finset.univ) :
    (ℓ ↦{fullShare} f : sProp 𝕄) ⊣⊢ iprop((ℓ ↦[A]{fullShare} f) ∗ ℓ ↦[B]{fullShare} f) := by
  rw [← hU]; exact pointsTo_union h

/-- A whole buffer is the three parts that make it up. -/
theorem cut_three {ℓ : Loc nD τ sig} {A B C : Finset (Idx ℓ)} (f : Buf (Elt F) ℓ) (h : Disjoint A B) (h' : Disjoint (A ∪ B) C)
    (hU : A ∪ B ∪ C = Finset.univ) :
    (ℓ ↦{fullShare} f : sProp 𝕄) ⊢ iprop((ℓ ↦[A]{fullShare} f) ∗ (ℓ ↦[B]{fullShare} f) ∗ ℓ ↦[C]{fullShare} f) := by
  rw [← hU]
  iintro H
  ihave H := (pointsTo_union h').1 $$ H
  icases H with ⟨H, HC⟩
  ihave H := (pointsTo_union h).1 $$ H
  icases H with ⟨HA, HB⟩
  isplitl [HA]; · iexact HA
  isplitl [HB] <;> iassumption

/-- Three parts that make up a buffer are the whole of it. -/
theorem join_three {ℓ : Loc nD τ sig} {A B C : Finset (Idx ℓ)} (f : Buf (Elt F) ℓ) (h : Disjoint A B) (h' : Disjoint (A ∪ B) C)
    (hU : A ∪ B ∪ C = Finset.univ) :
    iprop((ℓ ↦[A]{fullShare} f) ∗ (ℓ ↦[B]{fullShare} f) ∗ ℓ ↦[C]{fullShare} f) ⊢ (ℓ ↦{fullShare} f : sProp 𝕄) := by
  rw [← hU]
  iintro ⟨HA, HB, HC⟩
  iapply (pointsTo_union h').2
  isplitr [HC]
  · iapply (pointsTo_union h).2
    isplitl [HA] <;> iassumption
  · iexact HC

/-- The argument block cut into the two quarters that leave and the half that stays. -/
theorem cut_x (c : Dev nD) (f : Buf (Elt F) ((c : Thread nD τ).loc main_arg0)) :
    ((c : Thread nD τ).loc main_arg0 ↦{fullShare} f : sProp 𝕄) ⊢ iprop(part (x1 c) c f ∗ part (x2 c) c f ∗ part (x5 c) c f) :=
  cut_three f (by rw [set_x1, set_x2]; exact quarters_disjoint c) (by rw [set_x1, set_x2, set_x5]; exact kept_disjoint c)
    (by rw [set_x1, set_x2, set_x5]; exact x_cover c)
/-- The three parts of the argument block joined again. -/
theorem join_x (c : Dev nD) (f : Buf (Elt F) ((c : Thread nD τ).loc main_arg0)) :
    iprop(part (x1 c) c f ∗ part (x2 c) c f ∗ part (x5 c) c f) ⊢ ((c : Thread nD τ).loc main_arg0 ↦{fullShare} f : sProp 𝕄) :=
  join_three f (by rw [set_x1, set_x2]; exact quarters_disjoint c) (by rw [set_x1, set_x2, set_x5]; exact kept_disjoint c)
    (by rw [set_x1, set_x2, set_x5]; exact x_cover c)

/-- The result block cut into the two landing places and the rows the device writes itself. -/
theorem cut_o (c : Dev nD) (f : Buf (Elt F) ((c : Thread nD τ).loc main_v1)) :
    ((c : Thread nD τ).loc main_v1 ↦{fullShare} f : sProp 𝕄)
      ⊢ iprop(part (o3 (peer c)) c f ∗ part (o4 (peer c)) c f ∗ part (o6 c) c f) :=
  cut_three f (by rw [set_o3, set_o4]; exact landings_disjoint (peer c)) (by rw [set_o3, set_o4, set_o6]; exact own_disjoint c)
    (by rw [set_o3, set_o4, set_o6]; exact o_cover c)
/-- The three parts of the result block joined again. -/
theorem join_o (c : Dev nD) (f : Buf (Elt F) ((c : Thread nD τ).loc main_v1)) :
    iprop(part (o3 (peer c)) c f ∗ part (o4 (peer c)) c f ∗ part (o6 c) c f)
      ⊢ ((c : Thread nD τ).loc main_v1 ↦{fullShare} f : sProp 𝕄) :=
  join_three f (by rw [set_o3, set_o4]; exact landings_disjoint (peer c)) (by rw [set_o3, set_o4, set_o6]; exact own_disjoint c)
    (by rw [set_o3, set_o4, set_o6]; exact o_cover c)

/-- The two split staging buffers are their halves. -/
theorem cut_a (c : Dev nD) (f : Buf (Elt F) ((c : Thread nD τ).loc cc0_scratch0)) :
    ((c : Thread nD τ).loc cc0_scratch0 ↦{fullShare} f : sProp 𝕄) ⊣⊢ iprop(part aT c f ∗ part aB c f) :=
  cut_two f (by rw [set_aT, set_aB]; exact halves_disjoint) (by rw [set_aT, set_aB]; exact halves_cover)
/-- The block to be sent is its two halves. -/
theorem cut_h (c : Dev nD) (f : Buf (Elt F) ((c : Thread nD τ).loc cc0_scratch2)) :
    ((c : Thread nD τ).loc cc0_scratch2 ↦{fullShare} f : sProp 𝕄) ⊣⊢ iprop(part hT c f ∗ part hB c f) :=
  cut_two f (by rw [set_hT, set_hB]; exact halves_disjoint) (by rw [set_hT, set_hB]; exact halves_cover)
/-- The two other staging buffers are held whole. -/
theorem whole_b (c : Dev nD) (f : Buf (Elt F) ((c : Thread nD τ).loc cc0_scratch1)) :
    ((c : Thread nD τ).loc cc0_scratch1 ↦{fullShare} f : sProp 𝕄) = part bM c f := by
  unfold part; rw [View.set_whole]
/-- The converted half that stays is held whole. -/
theorem whole_g (c : Dev nD) (f : Buf (Elt F) ((c : Thread nD τ).loc cc0_scratch3)) :
    ((c : Thread nD τ).loc cc0_scratch3 ↦{fullShare} f : sProp 𝕄) = part gM c f := by
  unfold part; rw [View.set_whole]

/-! ## The cells at launch -/

/-- The eight semaphores of the kernel's own scratch. -/
def osem : Fin 8 → SemLoc sig := fun k => csem k.succ

/-- They are distinct, belong to the kernel, and none of them serves the windows. -/
theorem ownSemFacts : Pipeline.OwnSemFacts cfg0.spec osem := by decide

/-- The nine cells of every device. -/
def cellSet : Finset (GSem nD τ sig) := Finset.univ.map ⟨kcell, kcell_injective⟩

/-- Different cells have different contributions. -/
theorem tok_injective : Function.Injective fun ck : Dev nD × Fin 9 => (kcell ck, 0, ()) :=
  fun _ _ h => kcell_injective (congrArg Prod.fst h)
/-- One contribution for every cell. -/
def tokSet : Finset (GSem nD τ sig × ℕ × Unit) := Finset.univ.map ⟨fun ck : Dev nD × Fin 9 => (kcell ck, 0, ()), tok_injective⟩

/-- The ghost state at launch: the windows' and the exchange's. -/
def u₀ : UU := (initOf (Pipeline.cells cfgs cellOf_inj) (Pipeline.launchToks cfgs cellOf_inj), initOf cellSet tokSet)

/-- A family over the nine cells is its nine members. -/
theorem nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- What the launch gives device `c` for its own cells. -/
def G (c : Dev nD) : sProp 𝕄 :=
  iprop((bigSep Finset.univ fun k : Fin 9 => roundState ER (xRd m) (kcell (c, k)) 0)
    ∗ (bigSep Finset.univ fun k : Fin 9 => iprop(atPos ER (kcell (c, k)) 0 ∅ 0 ∗ reached ER (kcell (c, k)) 0))
    ∗ bigSep Finset.univ fun k : Fin 9 => dutyTok ER (kcell (c, k)) 0 ())

/-- What stays with device `c` besides the shared records: its place in its own cells, and the right to
    raise the cells it raises. -/
def linear (c : Dev nD) : sProp 𝕄 :=
  iprop((bigSep Finset.univ fun k : Fin 9 => atPos ER (kcell (c, k)) 0 ∅ 0)
    ∗ bigSep Finset.univ fun k : Fin 9 => dutyTok ER (kcell (payee k c, k)) 0 ())

/-- What device `c` has once all cells are made and the contributions are dealt. -/
def G' (c : Dev nD) : sProp 𝕄 := iprop(∃ K, records m K ∗ linear c)

/-- The exchange's ghost state at launch gives every device its share. -/
theorem fund_cells : BI.own (ER (initOf cellSet tokSet)) ⊢ (|==> bigSep Finset.univ (G m) : sProp 𝕄) := by
  have hX (Φ : GSem nD τ sig → sProp 𝕄) :
      bigSep cellSet Φ = bigSep Finset.univ fun c : Dev nD => bigSep Finset.univ fun k : Fin 9 => Φ (kcell (c, k)) := by
    unfold cellSet; rw [bigSep_map, bigSep_univ_prod]; rfl
  have hT : bigSep tokSet (fun x => (dutyTok ER x.1 x.2.1 x.2.2 : sProp 𝕄))
      = bigSep Finset.univ fun c : Dev nD => bigSep Finset.univ fun k : Fin 9 => dutyTok ER (kcell (c, k)) 0 () := by
    unfold tokSet; rw [bigSep_map, bigSep_univ_prod]; rfl
  iintro H
  imod (Rounds.fund ER (xRd m) cellSet tokSet) $$ H with ⟨Hs, Hr, Ha, Ht⟩
  imodintro
  ihave Hs := (Entails.of_eq (hX fun g => roundState ER (xRd m) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold G; simp only [bigSep_sep']
  isplitl [Hs]; · iexact Hs
  isplitl [Ha Hr]
  · isplitl [Ha] <;> iassumption
  iexact Ht

/-- The counters of the kernel's own semaphores are those of the cells 1 to 8. -/
theorem ownSems_eq (c : Dev nD) :
    (Pipeline.ownSems0 (Ix := Unit) (Name := ℕ) (U := UU) (Lvl := ℕ) (Val := Elt F) (τ := τ) osem c : sProp 𝕄)
      = iprop(semVal (kcell (c, 1)) 0 ∗ semVal (kcell (c, 2)) 0 ∗ semVal (kcell (c, 3)) 0 ∗ semVal (kcell (c, 4)) 0
          ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl

/-- The one other counter is the barrier's, cell 0. -/
theorem unscopedSems_eq (c : Dev nD) : (unscopedSems0 c : sProp 𝕄) = semVal (kcell (c, 0)) 0 := by
  unfold unscopedSems0; rw [bigSep_eq_bigSepL_of_eq [SemLoc.reg barS] (by decide) (by decide)]; rfl

/-- Together they are the counters of the nine cells. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems_eq, unscopedSems_eq, nine]
  iintro ⟨H, H0⟩
  isplitl [H0] <;> iassumption

/-- Every cell of a device is made. -/
theorem make_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv ER (xRd m) κ (kcell (c, k))))
          ∗ (bigSep Finset.univ fun k : Fin 9 => iprop(atPos ER (kcell (c, k)) 0 ∅ 0 ∗ reached ER (kcell (c, k)) 0))
          ∗ bigSep Finset.univ fun k : Fin 9 => dutyTok ER (kcell (c, k)) 0 ()) := by
  have hmk : iprop((bigSep Finset.univ fun k : Fin 9 => semVal (kcell (c, k)) 0)
        ∗ bigSep Finset.univ fun k : Fin 9 => roundState ER (xRd m) (kcell (c, k)) 0)
      ⊢ (|={Set.univ}=> bigSep Finset.univ fun k : Fin 9 => iprop(∃ κ : ℕ, cellInv ER (xRd m) κ (kcell (c, k))) : sProp 𝕄) := by
    rw [← bigSep_sep']
    exact (bigSep_mono fun k _ => (Rounds.body_intro ER (xRd m) (kcell (c, k))).trans inv_alloc).trans (bigSep_fupd _ _)
  unfold G
  iintro ⟨Ho, Hu, Hs, Ha, Ht⟩
  ihave Hv := (counters (F := F) c) $$ [Ho Hu]
  · isplitl [Ho] <;> iassumption
  imod (hmk) $$ [Hv Hs] with Hi
  · isplitl [Hv] <;> iassumption
  imodintro
  isplitl [Hi]; · iexact Hi
  isplitl [Ha] <;> iassumption

/-- Swapping every pair's exchanged cells is its own inverse. -/
def deal : Dev nD × Fin 9 ≃ Dev nD × Fin 9 where
  toFun ck := (payee ck.2 ck.1, ck.2)
  invFun ck := (payee ck.2 ck.1, ck.2)
  left_inv ck := Prod.ext (payee_payee ck.2 ck.1) rfl
  right_inv ck := Prod.ext (payee_payee ck.2 ck.1) rfl

/-- The contributions go to the devices that make them. -/
theorem dealt :
    (bigSep Finset.univ fun c : Dev nD => bigSep Finset.univ fun k : Fin 9 => (dutyTok ER (kcell (c, k)) 0 () : sProp 𝕄))
      = bigSep Finset.univ fun c : Dev nD => bigSep Finset.univ fun k : Fin 9 => dutyTok ER (kcell (payee k c, k)) 0 () := by
  rw [← bigSep_univ_prod (fun ck : Dev nD × Fin 9 => (dutyTok ER (kcell ck) 0 () : sProp 𝕄)),
    ← bigSep_univ_prod (fun ck : Dev nD × Fin 9 => (dutyTok ER (kcell (payee ck.2 ck.1, ck.2)) 0 () : sProp 𝕄)),
    bigSep_univ_equiv deal (fun ck : Dev nD × Fin 9 => (dutyTok ER (kcell ck) 0 () : sProp 𝕄))]
  rfl

/-- The shared records, with every device's own share, are what the devices have after the set-up. -/
theorem hand_over (K : Dev nD × Fin 9 → ℕ) :
    iprop(records m K ∗ bigSep Finset.univ (linear (F := F))) ⊢ bigSep Finset.univ (G' m) := by
  have one : ∀ c : Dev nD, iprop(records m K ∗ linear c) ⊢ G' m c := fun c => by
    unfold G'
    iintro H
    iexists K
    iexact H
  have all := bigSep_mono (s := Finset.univ) fun c _ => one c
  rw [bigSep_sep'] at all
  iintro ⟨#HR, HL⟩
  iapply (show _ ⊢ _ from all)
  isplitr
  · iapply (BI.bigSep_of_persistent Finset.univ (records m K))
    iassumption
  · iassumption

/-- The cells of all devices, made one by one, become shared records, and the contributions change hands. -/
theorem regroup :
    (bigSep Finset.univ fun c : Dev nD => iprop((bigSep Finset.univ fun k : Fin 9 => iprop(∃ κ : ℕ, cellInv ER (xRd m) κ (kcell (c, k))))
          ∗ (bigSep Finset.univ fun k : Fin 9 => iprop(atPos ER (kcell (c, k)) 0 ∅ 0 ∗ reached ER (kcell (c, k)) 0))
          ∗ bigSep Finset.univ fun k : Fin 9 => dutyTok ER (kcell (c, k)) 0 ()) : sProp 𝕄)
      ⊢ bigSep Finset.univ (G' m) := by
  rw [bigSep_sep', bigSep_sep', dealt,
    ← bigSep_univ_prod (fun ck : Dev nD × Fin 9 => iprop(∃ κ : ℕ, cellInv ER (xRd m) κ (kcell ck))),
    bigSep_congr (s := Finset.univ) (fun (c : Dev nD) _ =>
      bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Ha, #HR⟩, Ht⟩
  ihave HK := (BI.bigSep_exists_pi Finset.univ (fun (ck : Dev nD × Fin 9) (κ : ℕ) => (cellInv ER (xRd m) κ (kcell ck) : sProp 𝕄))) $$ HI
  icases HK with ⟨%K, #HI⟩
  iapply (hand_over m K)
  isplitr
  · unfold records
    isplitl <;> iassumption
  · unfold linear
    rw [bigSep_sep']
    isplitl [Ha] <;> iassumption

/-- All devices together make their cells and deal out the contributions. -/
theorem setup :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) :=
  ((bigSep_mono fun c _ => make_cells m c).trans (bigSep_fupd _ _)).trans (BI.fupd_mono (regroup m))

/-! ## The credits -/

/-- What a device's cell `k` is owed by its partner. -/
def owedAmt (k : Fin 9) : ℕ := (if k = 8 then NQ else 0) + (if k = 7 then NQ else 0) + (if k = 0 then 1 else 0)

/-- What one debt of device `d` to its partner says of device `c`'s cell `k`. -/
theorem tally_at (d c : Dev nD) (j k : Fin 9) (n : ℕ) :
    (tallyAt (kcell (peer d, j)) () n : CellTallies nD τ sig Unit) (kcell (c, k)) () = if d = peer c then (if k = j then n else 0) else 0 := by
  rw [tallyAt_apply]
  by_cases hd : d = peer c
  · subst hd
    rw [peer_peer, if_pos rfl]
    by_cases hk : k = j
    · subst hk; rw [if_pos ⟨rfl, rfl⟩, if_pos rfl]
    · rw [if_neg (fun h => hk (congrArg Prod.snd (kcell_injective h.1))), if_neg hk]
  · rw [if_neg hd, if_neg]
    rintro ⟨h, -⟩
    have h1 : c = peer d := congrArg Prod.fst (kcell_injective h)
    exact hd (by rw [h1, peer_peer])

/-- Device `d` owes device `c` something only if they are partners. -/
theorem owed_at (d c : Dev nD) (k : Fin 9) : O₀ d (kcell (c, k)) () = if d = peer c then owedAmt k else 0 := by
  unfold O₀ O₁ O₂
  rw [Pi.add_apply, Finsupp.add_apply, Pi.add_apply, Finsupp.add_apply, tally_at, tally_at, tally_at]
  unfold owedAmt
  split <;> rfl

/-- A cell's credit at launch is what its owner's partner owes it. -/
theorem launch_at (c : Dev nD) (k : Fin 9) :
    tallyOn (kcell (c, k)) (launchCredit (Pipeline.owing O₀) 0 (kcell (c, k))) = (tallyAt (kcell (c, k)) () (owedAmt k) : CellTallies nD τ sig Unit) := by
  unfold tallyAt
  refine congrArg _ (Finsupp.ext fun u => ?_)
  cases u
  rw [Pipeline.launchCredit_owing, Finsupp.single_eq_same, Finset.sum_congr rfl fun d _ => owed_at d c k,
    Finset.sum_ite_eq' Finset.univ (peer c) fun _ => owedAmt k, if_pos (Finset.mem_univ _)]

/-- A device's launch credit covers what its partner owes it. -/
theorem credits (c : Dev nD) :
    (Pipeline.launchCred O₀ c : sProp 𝕄)
      ⊢ iprop(cred (tallyAt (kcell (c, 0)) () (amt 0)) ∗ cred (tallyAt (kcell (c, 7)) () (amt 7)) ∗ cred (tallyAt (kcell (c, 8)) () (amt 8))) := by
  have h : (Pipeline.launchCred O₀ c : sProp 𝕄) ⊢ bigSep Finset.univ fun k : Fin 9 => cred (tallyAt (kcell (c, k)) () (owedAmt k)) := by
    unfold Pipeline.launchCred
    refine BI.Entails.trans (bigSep_subset (Finset.subset_univ (Finset.univ.map ⟨csem, csem_injective⟩))) ?_
    rw [bigSep_map]
    exact bigSep_mono fun k _ => Entails.of_eq (congrArg cred (launch_at c k))
  iintro H
  ihave H := (h) $$ H
  ihave H := (Entails.of_eq (nine _)) $$ H
  icases H with ⟨H0, -, -, -, -, -, -, H7, H8⟩
  isplitl [H0]; · iexact H0
  isplitl [H7]; · iexact H7
  iexact H8

/-! ## The two ends of the body -/

/-- The four staging buffers, at whatever contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What a device brings to the kernel besides its staging buffers. -/
def start (c : Dev nD) : sProp 𝕄 :=
  iprop(G' m c ∗ levAts L lv
    ∗ (cred (tallyAt (kcell (c, 0)) () (amt 0)) ∗ cred (tallyAt (kcell (c, 7)) () (amt 7)) ∗ cred (tallyAt (kcell (c, 8)) () (amt 8)))
    ∗ ((c : Thread nD τ).loc main_arg0 ↦{fullShare} m ((c : Thread nD τ).loc main_arg0))
    ∗ ((c : Thread nD τ).loc main_v1 ↦{fullShare} m ((c : Thread nD τ).loc main_v1)))

/-- What it takes away: the barrier's counter at zero, the argument unchanged and the result final. -/
def finish (c : Dev nD) : sProp 𝕄 :=
  iprop(unscopedSems0 c ∗ ((c : Thread nD τ).loc main_arg0 ↦{fullShare} m ((c : Thread nD τ).loc main_arg0))
    ∗ ((c : Thread nD τ).loc main_v1 ↦{fullShare} outF m c))

/-- What a device holds before the body. -/
def Φ₀ (c : Dev nD) : sProp 𝕄 := iprop(start m c ∗ scratch c)
/-- What a device holds after the body. -/
def Φ₁ (c : Dev nD) : sProp 𝕄 :=
  iprop(finish m c ∗ Pipeline.ownSems0 (Ix := Unit) (Name := ℕ) (U := UU) (Lvl := ℕ) (Val := Elt F) (τ := τ) osem c ∗ scratch c)

/-- What a device holds at launch is what the body takes. -/
theorem enter (c : Dev nD) : iprop(Φ₀ m c ∗ due c (O₀ c)) ⊢ iprop(∃ K, bodyPre m K c) := by
  unfold Φ₀ start scratch G' linear
  iintro ⟨⟨⟨⟨%K, #HR, Ha, Ht⟩, #Hlev, Hc, Hx, Ho⟩, ⟨%f0, H0⟩, ⟨%f1, H1⟩, ⟨%f2, H2⟩, ⟨%f3, H3⟩⟩, HO⟩
  ihave Hx := (cut_x c _) $$ Hx
  ihave Ho := (cut_o c _) $$ Ho
  icases Ho with ⟨Ho3, Ho4, Ho6⟩
  ihave H0 := (cut_a c f0).1 $$ H0
  icases H0 with ⟨HaT, HaB⟩
  ihave H2 := (cut_h c f2).1 $$ H2
  icases H2 with ⟨HhT, HhB⟩
  ihave H1 := (Entails.of_eq (whole_b c f1)) $$ H1
  ihave H3 := (Entails.of_eq (whole_g c f3)) $$ H3
  ihave Ha := (Entails.of_eq (nine _)) $$ Ha
  ihave Ht := (Entails.of_eq (nine _)) $$ Ht
  iexists K
  unfold bodyPre
  isplitr; · iexact HR
  isplitr; · iexact Hlev
  isplitl [HO]; · iexact HO
  isplitl [Hc]; · iexact Hc
  isplitl [Ha]; · iexact Ha
  isplitl [Ht]; · iexact Ht
  isplitl [Hx]; · iexact Hx
  isplitl [Ho3 Ho4 Ho6]
  · isplitl [Ho3]; · iexists _; iexact Ho3
    isplitl [Ho4]; · iexists _; iexact Ho4
    iexists _; iexact Ho6
  isplitl [HaT HaB]
  · isplitl [HaT]; · iexists _; iexact HaT
    iexists _; iexact HaB
  isplitl [H1]; · iexists _; iexact H1
  isplitl [HhT HhB]
  · isplitl [HhT]; · iexists _; iexact HhT
    iexists _; iexact HhB
  iexists _; iexact H3

/-- What the body leaves is what a device ends with. -/
theorem leave (c : Dev nD) : (bodyPost m c : sProp 𝕄) ⊢ iprop(Φ₁ m c ∗ due c 0) := by
  unfold Φ₁ finish scratch bodyPost
  rw [ownSems_eq, unscopedSems_eq]
  iintro ⟨HO, ⟨Hz0, Hz⟩, Hx, Ho, Ha, Hb, Hh, Hg⟩
  ihave Hx := (join_x c (xAt m c)) $$ Hx
  ihave Ho := (join_o c (outF m c)) $$ Ho
  ihave Ha := (cut_a c (stageS m c)).2 $$ Ha
  ihave Hh := (cut_h c (sentH m c)).2 $$ Hh
  ihave Hb := (Entails.of_eq (whole_b c (stageK m c)).symm) $$ Hb
  ihave Hg := (Entails.of_eq (whole_g c (keptH m c)).symm) $$ Hg
  isplitr [HO]
  · isplitl [Hz0 Hx Ho]
    · isplitl [Hz0]; · iexact Hz0
      isplitl [Hx]; · iexact Hx
      iexact Ho
    isplitl [Hz]; · iexact Hz
    isplitl [Ha]; · iexists _; iexact Ha
    isplitl [Hb]; · iexists _; iexact Hb
    isplitl [Hh]; · iexists _; iexact Hh
    iexists _; iexact Hg
  · iexact HO

/-! ## The run -/

/-- The state at launch: any memory, every counter at zero. -/
def s₀ : MemSt nD τ sig (Elt F) := ⟨m, fun _ => 0, ρ⟩

/-- The proof data of the one call: no windows, one point, debts before it and none after it. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body runs from the state before its one point to the state after it. -/
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ _) ⊢ wp frame (wpE (defs₀ (F := F)) 𝒱₀ (c : Thread nD τ) none) Set.univ
    (bodyAt0 t0_0) (fun _ => iprop(Φ₁ m c ∗ (dats m 0 c).owesAt () t0_0.succ ∗ _))
  unfold Dat.owesAt Pipeline.owesWithin
  iintro ⟨HΦ, ⟨%W, %hW, HO⟩, Hw⟩
  ihave Hpre := (enter m c) $$ [HΦ HO]
  · isplitl [HΦ]; · iexact HΦ
    unfold due
    iexists W; iexact HO
  icases Hpre with ⟨%K, Hpre⟩
  iapply (sound_body m K c _)
  isplitl [Hpre]; · iexact Hpre
  iintro Hpost
  ihave H := (leave m c) $$ Hpost
  icases H with ⟨HΦ, HO⟩
  isplitl [HΦ]; · iexact HΦ
  isplitl [HO]
  · unfold due
    icases HO with ⟨%W', HO⟩
    iexists W'
    isplitr; · ipureintro; exact fun _ _ => Or.inl trivial
    iexact HO
  · iexact Hw

/-- What the launch gives a device is what it brings to the kernel. -/
theorem enter_run (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start
  iintro ⟨⟨Hx, Ho⟩, Hlev, Hc, -, HG⟩
  ihave Hc := (credits (F := F) c) $$ Hc
  imodintro
  isplitl
  · isplitl [HG]; · iexact HG
    isplitl [Hlev]; · iexact Hlev
    isplitl [Hc]; · iexact Hc
    isplitl [Hx] <;> iassumption
  · iempintro

/-- With the staging buffers it is what the body starts from. -/
theorem enter_kernel (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- What the body ends with gives the final state and the staging buffers back. -/
theorem leave_kernel (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq]
  exact BI.Entails.refl _

/-- A wholly held buffer is what memory holds. -/
theorem read_buffer (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  icombine HSI H gives %h
  isplitr
  · ipureintro; exact Buf.eq_of_forall_mem_univ h
  · iexact HSI

/-- What a final memory says of device `c`. -/
def Reads (c : Dev nD) (s : MemSt nD τ sig (Elt F)) : Prop :=
  s.mem ((c : Thread nD τ).loc main_v1) = outF m c
    ∧ s.mem ((c : Thread nD τ).loc main_arg0) = m ((c : Thread nD τ).loc main_arg0)
    ∧ ∀ sm : SemLoc sig, sm.isScoped .tc = false → s.sem ((c.tc : Thread nD τ), sm) = 0

/-- What a device takes away fixes the final memory. -/
theorem read_final (c : Dev nD) (s' : Phys nD τ sig (Elt F)) :
    iprop(finish m c ∗ emp ∗ SI s') ⊢ |={Set.univ}=> iprop(⌜Reads m c s'.mem⌝ ∗ SI s') := by
  unfold finish
  iintro ⟨⟨Hu, Hx, Ho⟩, -, HSI⟩
  ihave H := (read_buffer _ _ s') $$ [Hx HSI]
  · isplitl [Hx] <;> iassumption
  icases H with ⟨%hx, HSI⟩
  ihave H := (read_buffer _ _ s') $$ [Ho HSI]
  · isplitl [Ho] <;> iassumption
  icases H with ⟨%ho, HSI⟩
  imod (Pipeline.unscopedSems0_read (X := unscopedSems0 c) (c := c) fupd_intro s') $$ [Hu HSI] with ⟨%hz, HSI⟩
  · isplitl [Hu] <;> iassumption
  imodintro
  isplitr
  · ipureintro; exact ⟨ho, hx, hz⟩
  · iexact HSI

/-- For any values of the floating-point operations, from any memory with all counters at zero, every
    fair execution of the program on the eight devices ends; in every final state each device's result
    block is `outF`, its argument block is what it was, and every counter is zero. -/
theorem run_main : θ_run defs (onTc (τ := τ) (main (F := F))) (s₀ m ρ) (fun r =>
    (∀ c : Dev nD, r.2.mem ((c : Thread nD τ).loc main_v1) = outF m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w _ _ => w.elim0)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := setup m)
    (hA := fun _ w => w.elim0) (hpf := fun _ k => k.elim0)
    (X := start m) (Y := finish m) (Z := fun _ => iprop(emp))
    (hX := enter_run m ρ) (hin := enter_kernel m) (hout := leave_kernel m)
    (QY := Reads m) (hY := read_final m)
    (hQ := fun _ h hs => ⟨fun c => ⟨(h c).2.2.1, (h c).2.2.2.1⟩, sem_eq_zero hs fun c => (h c).2.2.2.2⟩)

end Cert.KernelIdeal.Xchg

end
-- ==== Proof.Value.lean ====
/- The result blocks are the blocks of the converted whole array. -/
module

public import proofs.«01_k».proof.Proof.Contents
public import Idealize.ShloMosaic.Lib.Layout

@[expose] public section

noncomputable section

namespace Cert.KernelIdeal.Xchg

open Idealize.ShloMosaic Idealize.ShloMosaic.TcCoe
open Cert.KernelIdeal.Gen

variable {F : FTy → Type} [FloatOps F]
variable (m : (ℓ : Loc nD τ sig) → Buf (Elt F) ℓ)

/-- A device's position along the third axis of the mesh is the parity of its number. -/
theorem lin_z (c : Dev nD) : Layout.meshLin [2, 2, 2] c.val [2] = c.val % 2 := by
  revert c; decide

/-- The rows `1024 k` to `1024 k + 1023` of a pair's result come from its member of parity `k`. -/
theorem rowDev_z (c : Dev nD) (r : ℕ) (hr : r < 2048) : (rowDev c r).val % 2 = r / 1024 := by
  have hp := peer_z c
  unfold rowDev
  split <;> omega

/-- If the devices' argument blocks are the row blocks of one whole array, then the result block of each
    device is its column block of that array converted. -/
theorem outF_eq (x : (⟨2, ![2048, 1024]⟩ : Shape).Idx → Elt F .f32)
    (h : ∀ c : Dev nD, m ((c : Thread nD τ).loc main_arg0)
      = Layout.blockN ⟨2, ![1024, 1024]⟩ ⟨2, ![2048, 1024]⟩ (Layout.meshBlock [2, 2, 2] ![[2], []] c) x) (c : Dev nD) :
    outF m c = Layout.blockN ⟨2, ![2048, 512]⟩ ⟨2, ![2048, 1024]⟩ (Layout.meshBlock [2, 2, 2] ![[], [2]] c)
      (truncf .bf16 (x : Vec F ⟨2, ![2048, 1024]⟩ .f32) bitsLt_bf16_f32) := by
  funext i
  have h0 : (i 0).val < 2048 := (i 0).isLt
  have h1 : (i 1).val < 512 := (i 1).isLt
  have hc := rowDev_z c (i 0).val h0
  have hz := lin_z (rowDev c (i 0).val)
  have hz' := lin_z c
  rw [Layout.blockN_apply, cv_truncf]
  unfold outF xAt
  rw [h, Layout.blockN_apply]
  refine congrArg (fun j => cv (x j)) ?_
  funext a
  apply Fin.ext
  rw [Layout.TilesN.idx_val, Layout.TilesN.idx_val]
  fin_cases a
  · show Layout.meshLin [2, 2, 2] (rowDev c (i 0).val).val [2] * 1024 + ((i 0).val % 1024) % 1024 = 0 * 2048 + (i 0).val
    omega
  · show 0 * 1024 + (512 * (c.val % 2) + (i 1).val) % 1024 = Layout.meshLin [2, 2, 2] c.val [2] * 512 + (i 1).val
    omega

end Cert.KernelIdeal.Xchg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import Idealize.ShloMosaic.Adequacy
public import Idealize.ShloMosaic.Init
public import Idealize.ShloMosaic.Lib.Quiescent
public import proofs.«01_k».proof.Proof.Gen.ReferenceIdeal.Run
public import proofs.«01_k».proof.Proof.Gen.Reference.Run
public import proofs.«01_k».proof.Proof.Launch
public import proofs.«01_k».proof.Proof.Value

@[expose] public section

noncomputable section

namespace Cert.Proof

open Idealize.ShloMosaic Idealize.ShloMosaic.TcCoe Idealize.SL.Sem
open Cert.KernelIdeal.Xchg (run_main outF outF_eq)

/-- The kernel runs, leaves its argument as it was and ends with every counter at zero, on bits. Its text
    is the idealized kernel's, whose run is proved for any values of the floating-point operations. -/
theorem frame_kernel : Cert.quiescent_Kernel := fun m ρ _ =>
  (θ_run Cert.KernelIdeal.defs _ _).mono (fun _ h => ⟨fun c => (h.1 c).2, h.2⟩) (run_main (F := Bits) m ρ)

/-- The idealized kernel does too. -/
theorem frame_kernel_ideal : Cert.quiescent_KernelIdeal := fun m ρ _ =>
  (θ_run Cert.KernelIdeal.defs _ _).mono (fun _ h => ⟨fun c => (h.1 c).2, h.2⟩) (run_main (F := Ideal) m ρ)

/-- The idealized reference does too; it has no counter at all. -/
theorem frame_reference_ideal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The reference does too. -/
theorem frame_reference : Cert.quiescent_Reference := fun m ρ _ =>
  (θ_run Cert.Reference.defs _ _).mono (fun r h => ⟨fun c => (h c).2, sem_eq_zero_of_no_sems rfl r.2⟩)
    (Cert.Reference.Value.run (F := Bits) m ρ)

/-- Read over the extended reals, every device ends with its columns of the reference's result. -/
theorem algebraic : Cert.algebraic_KernelIdeal_ReferenceIdeal := fun m ρ m' ρ' _ hx =>
  ⟨_, (θ_run Cert.KernelIdeal.defs _ _).mono
      (fun _ h c => ⟨(h.1 c).1.trans (outF_eq (F := Ideal) m _ hx c), (h.1 c).2⟩) (run_main (F := Ideal) m ρ),
    (θ_run Cert.ReferenceIdeal.defs _ _).mono (fun _ h => h 0) (Cert.ReferenceIdeal.Value.run (F := Ideal) m' ρ')⟩

/-- On bits, every device ends with exactly its columns of the reference's result. -/
theorem bitexact : Cert.bitexact_Kernel_Reference := fun m ρ m' ρ' _ hx =>
  ⟨_, (θ_run Cert.KernelIdeal.defs _ _).mono
      (fun _ h c => ⟨(h.1 c).1.trans (outF_eq (F := Bits) m _ hx c), (h.1 c).2⟩) (run_main (F := Bits) m ρ),
    (θ_run Cert.Reference.defs _ _).mono (fun _ h => h 0) (Cert.Reference.Value.run (F := Bits) m' ρ')⟩

/-- All the claims. -/
theorem claim : Cert.Claim := ⟨Cert.Kernel.Gen.facts, Cert.KernelIdeal.Gen.facts, Cert.ReferenceIdeal.Gen.facts, Cert.Reference.Gen.facts,
  frame_kernel, frame_kernel_ideal, frame_reference_ideal, frame_reference, trivial, algebraic, bitexact⟩

end Cert.Proof

end
